-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S262144x256 : Shape := ⟨2, ![262144, 256]⟩
abbrev S262144x1 : Shape := ⟨2, ![262144, 1]⟩
abbrev S131072 : Shape := ⟨1, ![131072]⟩
abbrev S65536 : Shape := ⟨1, ![65536]⟩
abbrev S512x256 : Shape := ⟨2, ![512, 256]⟩
abbrev S512 : Shape := ⟨1, ![512]⟩
abbrev S128x512 : Shape := ⟨2, ![128, 512]⟩
abbrev S128 : Shape := ⟨1, ![128]⟩
abbrev S32x128x128 : Shape := ⟨3, ![32, 128, 128]⟩
abbrev S32x128 : Shape := ⟨2, ![32, 128]⟩
abbrev S32 : Shape := ⟨1, ![32]⟩
abbrev S131072x1 : Shape := ⟨2, ![131072, 1]⟩
abbrev S131072x32 : Shape := ⟨2, ![131072, 32]⟩
abbrev S_ : Shape := ⟨0, ![]⟩

class Facts : Prop where
  slices_S262144x1_S131072x1_0_0 : S262144x1.Slices ![0, 0] S131072x1
  bcast_S131072x1_S131072x32_0_1 : S131072x1.BroadcastsInDim S131072x32 (![0, 1] : Fin 2 → Fin S131072x32.rank)
  bcast_S_S262144x256 : S_.BroadcastsInDim S262144x256 (![] : Fin 0 → Fin S262144x256.rank)
  bcast_S_S512x256 : S_.BroadcastsInDim S512x256 (![] : Fin 0 → Fin S512x256.rank)
  bcast_S_S512 : S_.BroadcastsInDim S512 (![] : Fin 0 → Fin S512.rank)
  bcast_S_S128x512 : S_.BroadcastsInDim S128x512 (![] : Fin 0 → Fin S128x512.rank)
  bcast_S_S128 : S_.BroadcastsInDim S128 (![] : Fin 0 → Fin S128.rank)
  bcast_S_S32x128 : S_.BroadcastsInDim S32x128 (![] : Fin 0 → Fin S32x128.rank)
  bcast_S_S32 : S_.BroadcastsInDim S32 (![] : Fin 0 → Fin S32.rank)
  reducesTo_S131072x32_S32_d0 : S131072x32.ReducesTo [0] S32
  h_S_ : 0 < S_.numel

variable [Facts]

def fn_part1 {F : FTy → Type} [FloatOps F] (main_arg2 : IVec S131072 32) (main_arg9 : FVec F S128x512 .f32) (main_arg10 : FVec F S128 .f32) (main_arg13 : FVec F S32x128 .f32) (main_arg14 : FVec F S32 .f32) (main_v3 : IVec S131072x32 1) (main_v6 : IVec S262144x256 1) (main_v9 : IVec S512x256 1) (main_v12 : IVec S512 1) (main_v15 : IVec S512 1) (main_v18 : IVec S512 1) : IVec S262144x256 1 × IVec S512x256 1 × IVec S512 1 × IVec S512 1 × IVec S512 1 × IVec S128x512 1 × IVec S128 1 × IVec S32x128 1 × IVec S32 1 × IVec S131072 1 × IVec S32 1 :=
  let main_v19 : FVec F S128x512 .f32 := Host.absf main_arg9
  let main_cst_4 : FVec F S_ .f32 := constant S_ .f32 0x7F800000#32
  let main_v20 : FVec F S128x512 .f32 := broadcastInDim S128x512 ![] bcast_S_S128x512 main_cst_4
  let main_v21 : IVec S128x512 1 := cmpf .olt main_v19 main_v20
  let main_v22 : FVec F S128 .f32 := Host.absf main_arg10
  let main_cst_5 : FVec F S_ .f32 := constant S_ .f32 0x7F800000#32
  let main_v23 : FVec F S128 .f32 := broadcastInDim S128 ![] bcast_S_S128 main_cst_5
  let main_v24 : IVec S128 1 := cmpf .olt main_v22 main_v23
  let main_v25 : FVec F S32x128 .f32 := Host.absf main_arg13
  let main_cst_6 : FVec F S_ .f32 := constant S_ .f32 0x7F800000#32
  let main_v26 : FVec F S32x128 .f32 := broadcastInDim S32x128 ![] bcast_S_S32x128 main_cst_6
  let main_v27 : IVec S32x128 1 := cmpf .olt main_v25 main_v26
  let main_v28 : FVec F S32 .f32 := Host.absf main_arg14
  let main_cst_7 : FVec F S_ .f32 := constant S_ .f32 0x7F800000#32
  let main_v29 : FVec F S32 .f32 := broadcastInDim S32 ![] bcast_S_S32 main_cst_7
  let main_v30 : IVec S32 1 := cmpf .olt main_v28 main_v29
  let main_v31 : IVec S131072 32 := iotaInDim S131072 32 0
  let main_v32 : IVec S131072 1 := cmpi .eq main_arg2 main_v31
  let main_c : IVec S_ 1 := constantI S_ 1 0#1
  let main_v33 : IVec S32 1 := (fun x v => Host.reduce IntOp.ori x v reducesTo_S131072x32_S32_d0 h_S_) main_v3 main_c
  (main_v6, main_v9, main_v12, main_v15, main_v18, main_v21, main_v24, main_v27, main_v30, main_v32, main_v33)

def fn {F : FTy → Type} [FloatOps F] (main_arg0 : FVec F S262144x256 .f32) (main_arg1 : IVec S262144x1 32) (main_arg2 : IVec S131072 32) (main_arg3 : IVec S65536 32) (main_arg4 : IVec S65536 32) (main_arg5 : FVec F S512x256 .f32) (main_arg6 : FVec F S512 .f32) (main_arg7 : FVec F S512 .f32) (main_arg8 : FVec F S512 .f32) (main_arg9 : FVec F S128x512 .f32) (main_arg10 : FVec F S128 .f32) (main_arg11 : FVec F S32x128x128 .f32) (main_arg12 : FVec F S32x128 .f32) (main_arg13 : FVec F S32x128 .f32) (main_arg14 : FVec F S32 .f32) : IVec S262144x256 1 × IVec S512x256 1 × IVec S512 1 × IVec S512 1 × IVec S512 1 × IVec S128x512 1 × IVec S128 1 × IVec S32x128 1 × IVec S32 1 × IVec S131072 1 × IVec S32 1 :=
  let main_v0 : IVec S131072x1 32 := (extractStridedSlice S131072x1 ![0, 0] · slices_S262144x1_S131072x1_0_0) main_arg1
  let main_v1 : IVec S131072x32 32 := broadcastInDim S131072x32 ![0, 1] bcast_S131072x1_S131072x32_0_1 main_v0
  let main_v2 : IVec S131072x32 32 := iotaInDim S131072x32 32 1
  let main_v3 : IVec S131072x32 1 := cmpi .eq main_v1 main_v2
  let main_v4 : FVec F S262144x256 .f32 := Host.absf main_arg0
  let main_cst : FVec F S_ .f32 := constant S_ .f32 0x7F800000#32
  let main_v5 : FVec F S262144x256 .f32 := broadcastInDim S262144x256 ![] bcast_S_S262144x256 main_cst
  let main_v6 : IVec S262144x256 1 := cmpf .olt main_v4 main_v5
  let main_v7 : FVec F S512x256 .f32 := Host.absf main_arg5
  let main_cst_0 : FVec F S_ .f32 := constant S_ .f32 0x7F800000#32
  let main_v8 : FVec F S512x256 .f32 := broadcastInDim S512x256 ![] bcast_S_S512x256 main_cst_0
  let main_v9 : IVec S512x256 1 := cmpf .olt main_v7 main_v8
  let main_v10 : FVec F S512 .f32 := Host.absf main_arg6
  let main_cst_1 : FVec F S_ .f32 := constant S_ .f32 0x7F800000#32
  let main_v11 : FVec F S512 .f32 := broadcastInDim S512 ![] bcast_S_S512 main_cst_1
  let main_v12 : IVec S512 1 := cmpf .olt main_v10 main_v11
  let main_v13 : FVec F S512 .f32 := Host.absf main_arg7
  let main_cst_2 : FVec F S_ .f32 := constant S_ .f32 0x7F800000#32
  let main_v14 : FVec F S512 .f32 := broadcastInDim S512 ![] bcast_S_S512 main_cst_2
  let main_v15 : IVec S512 1 := cmpf .olt main_v13 main_v14
  let main_v16 : FVec F S512 .f32 := Host.absf main_arg8
  let main_cst_3 : FVec F S_ .f32 := constant S_ .f32 0x7F800000#32
  let main_v17 : FVec F S512 .f32 := broadcastInDim S512 ![] bcast_S_S512 main_cst_3
  let main_v18 : IVec S512 1 := cmpf .olt main_v16 main_v17
  fn_part1 (F := F) main_arg2 main_arg9 main_arg10 main_arg13 main_arg14 main_v3 main_v6 main_v9 main_v12 main_v15 main_v18
-- ==== Kernel.lean ====
abbrev S262144x256 : Shape := ⟨2, ![262144, 256]⟩
abbrev S262144x1 : Shape := ⟨2, ![262144, 1]⟩
abbrev S131072 : Shape := ⟨1, ![131072]⟩
abbrev S65536 : Shape := ⟨1, ![65536]⟩
abbrev S512x256 : Shape := ⟨2, ![512, 256]⟩
abbrev S512 : Shape := ⟨1, ![512]⟩
abbrev S128x512 : Shape := ⟨2, ![128, 512]⟩
abbrev S128 : Shape := ⟨1, ![128]⟩
abbrev S32x128x128 : Shape := ⟨3, ![32, 128, 128]⟩
abbrev S32x128 : Shape := ⟨2, ![32, 128]⟩
abbrev S32 : Shape := ⟨1, ![32]⟩
abbrev S8x512 : Shape := ⟨2, ![8, 512]⟩
abbrev S4096x256 : Shape := ⟨2, ![4096, 256]⟩
abbrev S4096x512 : Shape := ⟨2, ![4096, 512]⟩
abbrev S1x512 : Shape := ⟨2, ![1, 512]⟩
abbrev S_ : Shape := ⟨0, ![]⟩
abbrev S256x512 : Shape := ⟨2, ![256, 512]⟩
abbrev S1x128 : Shape := ⟨2, ![1, 128]⟩
abbrev S262144x128 : Shape := ⟨2, ![262144, 128]⟩
abbrev S4096x128 : Shape := ⟨2, ![4096, 128]⟩
abbrev S131072x1 : Shape := ⟨2, ![131072, 1]⟩
abbrev S64x1x2048 : Shape := ⟨3, ![64, 1, 2048]⟩
abbrev S128x32x128 : Shape := ⟨3, ![128, 32, 128]⟩
abbrev S128x4096 : Shape := ⟨2, ![128, 4096]⟩
abbrev S128x32 : Shape := ⟨2, ![128, 32]⟩
abbrev S1x4096 : Shape := ⟨2, ![1, 4096]⟩
abbrev S8x128 : Shape := ⟨2, ![8, 128]⟩
abbrev S128x128 : Shape := ⟨2, ![128, 128]⟩
abbrev S2048x128 : Shape := ⟨2, ![2048, 128]⟩
abbrev S1x1x2048 : Shape := ⟨3, ![1, 1, 2048]⟩
abbrev S2048 : Shape := ⟨1, ![2048]⟩
abbrev S2048x512 : Shape := ⟨2, ![2048, 512]⟩
abbrev S2048x256 : Shape := ⟨2, ![2048, 256]⟩
abbrev S2048x1 : Shape := ⟨2, ![2048, 1]⟩
abbrev S262144x32 : Shape := ⟨2, ![262144, 32]⟩
abbrev S8192x128 : Shape := ⟨2, ![8192, 128]⟩
abbrev S8192x32 : Shape := ⟨2, ![8192, 32]⟩
abbrev S128x256 : Shape := ⟨2, ![128, 256]⟩
abbrev S8192 : Shape := ⟨1, ![8192]⟩
abbrev S8192x1 : Shape := ⟨2, ![8192, 1]⟩
abbrev S8192x256 : Shape := ⟨2, ![8192, 256]⟩
abbrev S128x1 : Shape := ⟨2, ![128, 1]⟩
abbrev S32x32 : Shape := ⟨2, ![32, 32]⟩
abbrev S1x32x32 : Shape := ⟨3, ![1, 32, 32]⟩
abbrev S1 : Shape := ⟨1, ![1]⟩
abbrev S1x1x1 : Shape := ⟨3, ![1, 1, 1]⟩
abbrev S1x1 : Shape := ⟨2, ![1, 1]⟩

abbrev nBuf : Space → Nat
  | .hbm => 40
  | .vmem => 35
  | .smem => 0
  | _ => 0

abbrev bufTy : (tb : Table) → Fin (tcTables nBuf tb) → BufTy
  | .hbm, ⟨0, _⟩ => ⟨S262144x256, .f32⟩
  | .hbm, ⟨1, _⟩ => ⟨S262144x1, .i32⟩
  | .hbm, ⟨2, _⟩ => ⟨S131072, .i32⟩
  | .hbm, ⟨3, _⟩ => ⟨S65536, .i32⟩
  | .hbm, ⟨4, _⟩ => ⟨S65536, .i32⟩
  | .hbm, ⟨5, _⟩ => ⟨S512x256, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S128x512, .f32⟩
  | .hbm, ⟨10, _⟩ => ⟨S128, .f32⟩
  | .hbm, ⟨11, _⟩ => ⟨S32x128x128, .f32⟩
  | .hbm, ⟨12, _⟩ => ⟨S32x128, .f32⟩
  | .hbm, ⟨13, _⟩ => ⟨S32x128, .f32⟩
  | .hbm, ⟨14, _⟩ => ⟨S32, .f32⟩
  | .hbm, ⟨15, _⟩ => ⟨S8x512, .f32⟩
  | .hbm, ⟨16, _⟩ => ⟨S8x512, .f32⟩
  | .hbm, ⟨17, _⟩ => ⟨S_, .f32⟩
  | .hbm, ⟨18, _⟩ => ⟨S128x512, .f32⟩
  | .hbm, ⟨19, _⟩ => ⟨S256x512, .f32⟩
  | .hbm, ⟨20, _⟩ => ⟨S1x512, .f32⟩
  | .hbm, ⟨21, _⟩ => ⟨S1x512, .f32⟩
  | .hbm, ⟨22, _⟩ => ⟨S1x128, .f32⟩
  | .hbm, ⟨23, _⟩ => ⟨S262144x128, .f32⟩
  | .hbm, ⟨24, _⟩ => ⟨S131072x1, .i32⟩
  | .hbm, ⟨25, _⟩ => ⟨S131072, .i32⟩
  | .hbm, ⟨26, _⟩ => ⟨S64x1x2048, .i32⟩
  | .hbm, ⟨27, _⟩ => ⟨S128x32x128, .f32⟩
  | .hbm, ⟨28, _⟩ => ⟨S4096x128, .f32⟩
  | .hbm, ⟨29, _⟩ => ⟨S128x4096, .f32⟩
  | .hbm, ⟨30, _⟩ => ⟨S128x32, .f32⟩
  | .hbm, ⟨31, _⟩ => ⟨S1x4096, .f32⟩
  | .hbm, ⟨32, _⟩ => ⟨S128x32, .f32⟩
  | .hbm, ⟨33, _⟩ => ⟨S1x4096, .f32⟩
  | .hbm, ⟨34, _⟩ => ⟨S8x128, .f32⟩
  | .hbm, ⟨35, _⟩ => ⟨S128x128, .f32⟩
  | .hbm, ⟨36, _⟩ => ⟨S262144x32, .f32⟩
  | .hbm, ⟨37, _⟩ => ⟨S8x128, .f32⟩
  | .hbm, ⟨38, _⟩ => ⟨S1x1, .f32⟩
  | .hbm, ⟨39, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S512x256, .f32⟩
  | .local _ .vmem, ⟨3, _⟩ => ⟨S8x512, .f32⟩
  | .local _ .vmem, ⟨4, _⟩ => ⟨S8x512, .f32⟩
  | .local _ .vmem, ⟨5, _⟩ => ⟨S4096x256, .f32⟩
  | .local _ .vmem, ⟨6, _⟩ => ⟨S4096x256, .f32⟩
  | .local _ .vmem, ⟨7, _⟩ => ⟨S8x512, .f32⟩
  | .local _ .vmem, ⟨8, _⟩ => ⟨S8x512, .f32⟩
  | .local _ .vmem, ⟨9, _⟩ => ⟨S512x256, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S1x512, .f32⟩
  | .local _ .vmem, ⟨17, _⟩ => ⟨S1x512, .f32⟩
  | .local _ .vmem, ⟨18, _⟩ => ⟨S2048x128, .f32⟩
  | .local _ .vmem, ⟨19, _⟩ => ⟨S2048x128, .f32⟩
  | .local _ .vmem, ⟨20, _⟩ => ⟨S1x1x2048, .i32⟩
  | .local _ .vmem, ⟨21, _⟩ => ⟨S1x1x2048, .i32⟩
  | .local _ .vmem, ⟨22, _⟩ => ⟨S128x4096, .f32⟩
  | .local _ .vmem, ⟨23, _⟩ => ⟨S1x4096, .f32⟩
  | .local _ .vmem, ⟨24, _⟩ => ⟨S1x4096, .f32⟩
  | .local _ .vmem, ⟨25, _⟩ => ⟨S8x128, .f32⟩
  | .local _ .vmem, ⟨26, _⟩ => ⟨S128x128, .f32⟩
  | .local _ .vmem, ⟨27, _⟩ => ⟨S8x128, .f32⟩
  | .local _ .vmem, ⟨28, _⟩ => ⟨S8192x128, .f32⟩
  | .local _ .vmem, ⟨29, _⟩ => ⟨S8192x128, .f32⟩
  | .local _ .vmem, ⟨30, _⟩ => ⟨S8x128, .f32⟩
  | .local _ .vmem, ⟨31, _⟩ => ⟨S128x128, .f32⟩
  | .local _ .vmem, ⟨32, _⟩ => ⟨S8192x32, .f32⟩
  | .local _ .vmem, ⟨33, _⟩ => ⟨S8192x32, .f32⟩
  | .local _ .vmem, ⟨34, _⟩ => ⟨S8x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg8_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem8_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]
-- ==== ReferenceIdeal.lean ====
abbrev S262144x256 : Shape := ⟨2, ![262144, 256]⟩
abbrev S262144x1 : Shape := ⟨2, ![262144, 1]⟩
abbrev S131072 : Shape := ⟨1, ![131072]⟩
abbrev S65536 : Shape := ⟨1, ![65536]⟩
abbrev S512x256 : Shape := ⟨2, ![512, 256]⟩
abbrev S512 : Shape := ⟨1, ![512]⟩
abbrev S128x512 : Shape := ⟨2, ![128, 512]⟩
abbrev S128 : Shape := ⟨1, ![128]⟩
abbrev S32x128x128 : Shape := ⟨3, ![32, 128, 128]⟩
abbrev S32x128 : Shape := ⟨2, ![32, 128]⟩
abbrev S32 : Shape := ⟨1, ![32]⟩
abbrev S256x512 : Shape := ⟨2, ![256, 512]⟩
abbrev S262144x512 : Shape := ⟨2, ![262144, 512]⟩
abbrev S1x512 : Shape := ⟨2, ![1, 512]⟩
abbrev S_ : Shape := ⟨0, ![]⟩
abbrev S512x128 : Shape := ⟨2, ![512, 128]⟩
abbrev S262144x128 : Shape := ⟨2, ![262144, 128]⟩
abbrev S1x128 : Shape := ⟨2, ![1, 128]⟩
abbrev S131072x1 : Shape := ⟨2, ![131072, 1]⟩
abbrev S131072x128 : Shape := ⟨2, ![131072, 128]⟩
abbrev S131072x2 : Shape := ⟨2, ![131072, 2]⟩
abbrev S131072x32x128 : Shape := ⟨3, ![131072, 32, 128]⟩
abbrev S32x1x128 : Shape := ⟨3, ![32, 1, 128]⟩
abbrev S32x131072x128 : Shape := ⟨3, ![32, 131072, 128]⟩
abbrev S32x131072 : Shape := ⟨2, ![32, 131072]⟩
abbrev S32x1 : Shape := ⟨2, ![32, 1]⟩
abbrev S1x131072 : Shape := ⟨2, ![1, 131072]⟩
abbrev S1x32 : Shape := ⟨2, ![1, 32]⟩
abbrev S32x32 : Shape := ⟨2, ![32, 32]⟩
abbrev S128x32 : Shape := ⟨2, ![128, 32]⟩
abbrev S262144 : Shape := ⟨1, ![262144]⟩
abbrev S262144x32 : Shape := ⟨2, ![262144, 32]⟩

abbrev nBuf : Space → Nat
  | .hbm => 175
  | .vmem => 0
  | .smem => 0
  | _ => 0

abbrev hbmTy0_0 (i : Nat) : BufTy := match i % 128 with
  | 0 => ⟨S262144x256, .f32⟩
  | 1 => ⟨S262144x1, .i32⟩
  | 2 => ⟨S131072, .i32⟩
  | 3 => ⟨S65536, .i32⟩
  | 4 => ⟨S65536, .i32⟩
  | 5 => ⟨S512x256, .f32⟩
  | 6 => ⟨S512, .f32⟩
  | 7 => ⟨S512, .f32⟩
  | 8 => ⟨S512, .f32⟩
  | 9 => ⟨S128x512, .f32⟩
  | 10 => ⟨S128, .f32⟩
  | 11 => ⟨S32x128x128, .f32⟩
  | 12 => ⟨S32x128, .f32⟩
  | 13 => ⟨S32x128, .f32⟩
  | 14 => ⟨S32, .f32⟩
  | 15 => ⟨S256x512, .f32⟩
  | 16 => ⟨S262144x512, .f32⟩
  | 17 => ⟨S1x512, .f32⟩
  | 18 => ⟨S262144x512, .f32⟩
  | 19 => ⟨S262144x512, .f32⟩
  | 20 => ⟨S_, .f32⟩
  | 21 => ⟨S512, .f32⟩
  | 22 => ⟨S_, .f32⟩
  | 23 => ⟨S512, .f32⟩
  | 24 => ⟨S512, .f32⟩
  | 25 => ⟨S_, .i32⟩
  | 26 => ⟨S_, .f32⟩
  | 27 => ⟨S512, .f32⟩
  | 28 => ⟨S1x512, .f32⟩
  | 29 => ⟨S_, .f32⟩
  | 30 => ⟨S1x512, .f32⟩
  | 31 => ⟨S1x512, .f32⟩
  | 32 => ⟨S262144x512, .f32⟩
  | 33 => ⟨S262144x512, .f32⟩
  | 34 => ⟨S262144x512, .f32⟩
  | 35 => ⟨S_, .f32⟩
  | 36 => ⟨S_, .f32⟩
  | 37 => ⟨S_, .f32⟩
  | 38 => ⟨S_, .f32⟩
  | 39 => ⟨S512, .f32⟩
  | 40 => ⟨S512, .f32⟩
  | 41 => ⟨S512, .f32⟩
  | 42 => ⟨S_, .f32⟩
  | 43 => ⟨S_, .i1⟩
  | 44 => ⟨S_, .f32⟩
  | 45 => ⟨S_, .f32⟩
  | 46 => ⟨S512, .f32⟩
  | 47 => ⟨S512, .f32⟩
  | 48 => ⟨S1x512, .f32⟩
  | 49 => ⟨S262144x512, .f32⟩
  | 50 => ⟨S262144x512, .f32⟩
  | 51 => ⟨S_, .f32⟩
  | 52 => ⟨S512, .f32⟩
  | 53 => ⟨S512, .f32⟩
  | 54 => ⟨S512, .f32⟩
  | 55 => ⟨S1x512, .f32⟩
  | 56 => ⟨S262144x512, .f32⟩
  | 57 => ⟨S262144x512, .f32⟩
  | 58 => ⟨S1x512, .f32⟩
  | 59 => ⟨S262144x512, .f32⟩
  | 60 => ⟨S262144x512, .f32⟩
  | 61 => ⟨S1x512, .f32⟩
  | 62 => ⟨S262144x512, .f32⟩
  | 63 => ⟨S262144x512, .f32⟩
  | 64 => ⟨S_, .f32⟩
  | 65 => ⟨S262144x512, .f32⟩
  | 66 => ⟨S262144x512, .i1⟩
  | 67 => ⟨S_, .f32⟩
  | 68 => ⟨S262144x512, .f32⟩
  | 69 => ⟨S262144x512, .f32⟩
  | 70 => ⟨S262144x512, .f32⟩
  | 71 => ⟨S512x128, .f32⟩
  | 72 => ⟨S262144x128, .f32⟩
  | 73 => ⟨S1x128, .f32⟩
  | 74 => ⟨S262144x128, .f32⟩
  | 75 => ⟨S262144x128, .f32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x128, .f32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S_, .i32⟩
  | 93 => ⟨S131072, .i32⟩
  | 94 => ⟨S131072, .i32⟩
  | 95 => ⟨S131072x1, .i32⟩
  | 96 => ⟨S131072x1, .i32⟩
  | 97 => ⟨S131072x2, .i32⟩
  | 98 => ⟨S131072, .i32⟩
  | 99 => ⟨S32, .i32⟩
  | 100 => ⟨S32x128x128, .f32⟩
  | 101 => ⟨S131072x32x128, .f32⟩
  | 102 => ⟨S32x1x128, .f32⟩
  | 103 => ⟨S32x131072x128, .f32⟩
  | 104 => ⟨S32x131072x128, .f32⟩
  | 105 => ⟨S32x131072x128, .f32⟩
  | 106 => ⟨S32x131072x128, .f32⟩
  | 107 => ⟨S32x131072, .f32⟩
  | 108 => ⟨S32x1, .f32⟩
  | 109 => ⟨S32x131072, .f32⟩
  | 110 => ⟨S32x131072, .f32⟩
  | 111 => ⟨S1x131072, .i32⟩
  | 112 => ⟨S32x1, .i32⟩
  | 113 => ⟨S32x131072, .i32⟩
  | 114 => ⟨S32x131072, .i32⟩
  | 115 => ⟨S32x131072, .i1⟩
  | 116 => ⟨S_, .f32⟩
  | 117 => ⟨S_, .f32⟩
  | 118 => ⟨S131072, .f32⟩
  | 119 => ⟨S32x131072, .f32⟩
  | 120 => ⟨S32x131072, .f32⟩
  | 121 => ⟨S_, .f32⟩
  | 122 => ⟨S32, .f32⟩
  | 123 => ⟨S_, .f32⟩
  | 124 => ⟨S32, .f32⟩
  | 125 => ⟨S32, .f32⟩
  | 126 => ⟨S32x1, .f32⟩
  | 127 => ⟨S32x131072, .f32⟩
  | _ => ⟨S262144x256, .f32⟩

abbrev hbmTy0_1 (i : Nat) : BufTy := match i % 128 with
  | 0 => ⟨S32x131072, .f32⟩
  | 1 => ⟨S32x131072, .f32⟩
  | 2 => ⟨S_, .f32⟩
  | 3 => ⟨S32, .f32⟩
  | 4 => ⟨S32x1, .f32⟩
  | 5 => ⟨S32x131072, .f32⟩
  | 6 => ⟨S32x131072, .f32⟩
  | 7 => ⟨S32x128, .f32⟩
  | 8 => ⟨S32x128, .f32⟩
  | 9 => ⟨S_, .f32⟩
  | 10 => ⟨S32, .f32⟩
  | 11 => ⟨S32x1, .f32⟩
  | 12 => ⟨S32x128, .f32⟩
  | 13 => ⟨S_, .f32⟩
  | 14 => ⟨S32, .f32⟩
  | 15 => ⟨S1x32, .f32⟩
  | 16 => ⟨S32x32, .f32⟩
  | 17 => ⟨S32x32, .f32⟩
  | 18 => ⟨S32x32, .f32⟩
  | 19 => ⟨S128x32, .f32⟩
  | 20 => ⟨S32x32, .f32⟩
  | 21 => ⟨S_, .f32⟩
  | 22 => ⟨S32x32, .f32⟩
  | 23 => ⟨S32x32, .f32⟩
  | 24 => ⟨S32x32, .f32⟩
  | 25 => ⟨S_, .f32⟩
  | 26 => ⟨S_, .f32⟩
  | 27 => ⟨S_, .f32⟩
  | 28 => ⟨S_, .f32⟩
  | 29 => ⟨S262144x128, .f32⟩
  | 30 => ⟨S_, .f32⟩
  | 31 => ⟨S262144, .f32⟩
  | 32 => ⟨S262144x1, .f32⟩
  | 33 => ⟨S32x128, .f32⟩
  | 34 => ⟨S_, .f32⟩
  | 35 => ⟨S32, .f32⟩
  | 36 => ⟨S1x32, .f32⟩
  | 37 => ⟨S262144x32, .f32⟩
  | 38 => ⟨S262144x32, .f32⟩
  | 39 => ⟨S262144x32, .f32⟩
  | 40 => ⟨S128x32, .f32⟩
  | 41 => ⟨S262144x32, .f32⟩
  | 42 => ⟨S_, .f32⟩
  | 43 => ⟨S262144x32, .f32⟩
  | 44 => ⟨S262144x32, .f32⟩
  | 45 => ⟨S262144x32, .f32⟩
  | 46 => ⟨S262144x32, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_2 : Ref sig .tc := ⟨.hbm, 64, rfl⟩
abbrev main_v24 : Ref sig .tc := ⟨.hbm, 65, rfl⟩
abbrev main_v25 : Ref sig .tc := ⟨.hbm, 66, rfl⟩
abbrev main_cst_3 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_c_4 : Ref sig .tc := ⟨.hbm, 76, rfl⟩
abbrev main_v34 : Ref sig .tc := ⟨.hbm, 77, rfl⟩
abbrev main_v35 : Ref sig .tc := ⟨.hbm, 78, rfl⟩
abbrev main_c_5 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c_6 : Ref sig .tc := ⟨.hbm, 85, rfl⟩
abbrev main_v41 : Ref sig .tc := ⟨.hbm, 86, rfl⟩
abbrev main_v42 : Ref sig .tc := ⟨.hbm, 87, rfl⟩
abbrev main_c_7 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_8 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_9 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v69 : Ref sig .tc := ⟨.hbm, 120, rfl⟩
abbrev main_cst_10 : Ref sig .tc := ⟨.hbm, 121, rfl⟩
abbrev main_v70 : Ref sig .tc := ⟨.hbm, 122, rfl⟩
abbrev main_cst_11 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_12 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_13 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_14 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_15 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_16 : Ref sig .tc := ⟨.hbm, 153, rfl⟩
abbrev main_v96 : Ref sig .tc := ⟨.hbm, 154, rfl⟩
abbrev main_cst_17 : Ref sig .tc := ⟨.hbm, 155, rfl⟩
abbrev main_v97 : Ref sig .tc := ⟨.hbm, 156, rfl⟩
abbrev main_v98 : Ref sig .tc := ⟨.hbm, 157, rfl⟩
abbrev main_cst_18 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_19 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_20 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩

abbrev nD : Nat := 1
abbrev τ : Topo := Topo.v7x

variable {F : FTy → Type} [FloatOps F]
-- ==== Proof.Base.lean ====
/- Boxes of an array, and what a load of one through a view reads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.Tactic
public import Idealize.ShloMosaic.Lib.WordCmp

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A box of an array, read as an array of its own. -/
def part {s : Shape} {e : EltTy} (B : LoadRect s) (x : s.Idx → Elt F e) : B.shape.Idx → Elt F e := fun j => x (B.idx j)

/-- A load of a box of a view reads that box of what the view reads. -/
theorem readAt_part {sp : Space} {s : Shape} {e : EltTy} (v : View sig .tc sp s e) (B : LoadRect s) (f : v.ty.Contents (Elt F))
    (x : s.Idx → Elt F e) (h : v.read (Elt F) f = x) : v.readAt (Elt F) B f = part B x := by
  subst h; rfl

/-- A load of all of a view reads what the view reads. -/
theorem readAt_whole {sp : Space} {s : Shape} {e : EltTy} (v : View sig .tc sp s e) {off : Fin s.rank → ℕ}
    (inb : ∀ a, off a + s.size a ≤ s.size a) {f : v.ty.Contents (Elt F)} {x : s.Idx → Elt F e} (h : v.read (Elt F) f = x) :
    v.readAt (Elt F) (Rect.unit off s.size inb).toLoadRect f = x :=
  (View.readAt_full v f inb).trans h

end Cert.KernelIdeal.Net

end
-- ==== Proof.Stats.lean ====
/- The first launch of the kernel, which accumulates the column sums of `x @ W0ᵀ` and of its squares over the 64 row
   blocks of `x`: what each point of its grid leaves in the two accumulators, and the proof that the body does that. -/
module

public import proofs.«01_k».proof.Proof.Base

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch, from the grid coordinates. -/
abbrev cond0 (i : grid0.Coords) : Prop :=
  (Scalar.cmpi .ne (Scalar.extui (Scalar.cmpi .eq (BitVec.ofNat 32 (i 0).val) 0#32)) 0#32) = 1#1

/-- It holds at the first point alone. -/
theorem cond0_iff (t : Fin cfg0.N) : cond0 (grid0.coords t) ↔ t.val = 0 := by
  have ht : t.val < 64 := Nat.lt_of_lt_of_eq t.isLt N_0
  have e0 : (grid0.coords t 0).val = t.val / 1 % 64 := Pipeline.Grid.coords_val t 0 (by decide) rfl
  simp only [cond0, e0]
  word_cmp

set_option maxHeartbeats 1000000 in
/-- The body where its branch is taken: the accumulators start from zero. -/
theorem run0_first (c : Dev nD) (i : grid0.Coords) (arg1 : Memref sig .tc .vmem S4096x256 .f32) (harg1 : arg1.IsWhole)
    (arg2 : Memref sig .tc .vmem S512x256 .f32) (harg2 : arg2.IsWhole) (arg3 : Memref sig .tc .vmem S8x512 .f32) (harg3 : arg3.IsWhole)
    (arg4 : Memref sig .tc .vmem S8x512 .f32) (harg4 : arg4.IsWhole) (x0 : Vec F S4096x256 .f32) (x1 : Vec F S512x256 .f32)
    (E : Set ℕ) (K : PUnit → sProp 𝕄)
    (hc : cond0 i) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay4 x0 x1 k0_pay1)
            ∗ owns (c : Thread nD τ) arg4 fullShare (k0_pay5 x0 x1 k0_pay2)) -∗ K ⟨⟩))
      ⊢ wp frame (wpE (defs₀ (F := F)) Variants.none c none) E (cc0_tapnet_stats i arg1 harg1 arg2 harg2 arg3 harg3 arg4 harg4) K := by
  simp only [cc0_tapnet_stats_eq_skeleton]; unfold cc0_tapnet_stats_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]
  · iexists _; isplitr
    swap; · iexact H2
    ipureintro; sl_unfold_run_names
    exact (View.read_writes_full _ _ _ _ _).trans (by rw [View.readAt_full, View.readAt_full, hf0, hf1, View.readCov_full])
  iexists _; isplitr
  swap; · iexact H3
  ipureintro; sl_unfold_run_names
  exact (View.read_writes_full _ _ _ _ _).trans (by rw [View.readAt_full, View.readAt_full, hf0, hf1, View.readCov_full])

set_option maxHeartbeats 1000000 in
/-- The body where its branch is not taken: the accumulators go on from what they hold. -/
theorem run0_next (c : Dev nD) (i : grid0.Coords) (arg1 : Memref sig .tc .vmem S4096x256 .f32) (harg1 : arg1.IsWhole)
    (arg2 : Memref sig .tc .vmem S512x256 .f32) (harg2 : arg2.IsWhole) (arg3 : Memref sig .tc .vmem S8x512 .f32) (harg3 : arg3.IsWhole)
    (arg4 : Memref sig .tc .vmem S8x512 .f32) (harg4 : arg4.IsWhole) (x0 : Vec F S4096x256 .f32) (x1 : Vec F S512x256 .f32)
    (E : Set ℕ) (K : PUnit → sProp 𝕄)
    (hc : ¬cond0 i) (a b : Vec F S8x512 .f32) :
    iprop(owns (c : Thread nD τ) arg1 fullShare x0 ∗ owns (c : Thread nD τ) arg2 fullShare x1
        ∗ owns (c : Thread nD τ) arg3 fullShare a ∗ owns (c : Thread nD τ) arg4 fullShare b
        ∗ (iprop(owns (c : Thread nD τ) arg1 fullShare x0 ∗ owns (c : Thread nD τ) arg2 fullShare x1
            ∗ owns (c : Thread nD τ) arg3 fullShare (k0_pay4 x0 x1 a)
            ∗ owns (c : Thread nD τ) arg4 fullShare (k0_pay5 x0 x1 b)) -∗ K ⟨⟩))
      ⊢ wp frame (wpE (defs₀ (F := F)) Variants.none c none) E (cc0_tapnet_stats i arg1 harg1 arg2 harg2 arg3 harg3 arg4 harg4) K := by
  simp only [cc0_tapnet_stats_eq_skeleton]; unfold cc0_tapnet_stats_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]
  · iexists _; isplitr
    swap; · iexact H2
    ipureintro; sl_unfold_run_names
    exact (View.read_writes_full _ _ _ _ _).trans (by rw [View.readAt_full, View.readAt_full, View.readAt_full, hf0, hf1, hf2])
  iexists _; isplitr
  swap; · iexact H3
  ipureintro; sl_unfold_run_names
  exact (View.read_writes_full _ _ _ _ _).trans (by rw [View.readAt_full, View.readAt_full, View.readAt_full, hf0, hf1, hf3])

section Region

-- what the arrays hold when the launch is entered
variable (V : (c : Dev nD) → (b : Ref sig .tc) → Buf (Elt F) ((c : Thread nD τ).loc b)) (c : Dev nD)

/-- Window `w`'s block of its array at point `t`. -/
def blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after point `n`. -/
def stats : (n : ℕ) → n < cfg0.N → Vec F S8x512 .f32 × Vec F S8x512 .f32
  | 0, h => (k0_pay4 (blk0 V c 0 ⟨0, h⟩) (blk0 V c 1 ⟨0, h⟩) k0_pay1, k0_pay5 (blk0 V c 0 ⟨0, h⟩) (blk0 V c 1 ⟨0, h⟩) k0_pay2)
  | n + 1, h => (k0_pay4 (blk0 V c 0 ⟨n + 1, h⟩) (blk0 V c 1 ⟨n + 1, h⟩) (stats n (by omega)).1,
      k0_pay5 (blk0 V c 0 ⟨n + 1, h⟩) (blk0 V c 1 ⟨n + 1, h⟩) (stats n (by omega)).2)

theorem stats_zero (t : Fin cfg0.N) (h : t.val = 0) : stats V c t.val t.isLt
    = (k0_pay4 (blk0 V c 0 t) (blk0 V c 1 t) k0_pay1, k0_pay5 (blk0 V c 0 t) (blk0 V c 1 t) k0_pay2) := by
  obtain ⟨n, hn⟩ := t; obtain rfl : n = 0 := h; rfl

theorem stats_pos (t : Fin cfg0.N) (h : t.val ≠ 0) : stats V c t.val t.isLt
    = (k0_pay4 (blk0 V c 0 t) (blk0 V c 1 t) (stats V c (t.val - 1) (Nat.lt_of_le_of_lt (Nat.sub_le _ _) t.isLt)).1,
      k0_pay5 (blk0 V c 0 t) (blk0 V c 1 t) (stats V c (t.val - 1) (Nat.lt_of_le_of_lt (Nat.sub_le _ _) t.isLt)).2) := by
  obtain ⟨n, hn⟩ := t
  cases n with
  | zero => exact absurd rfl h
  | succ n => rfl

/-- The launch's proof data: each input's buffer at its block, the accumulators at `stats`. -/
def dat0 : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (stats V c t.val t.isLt).1
    | ⟨3, _⟩ => (stats V c t.val t.isLt).2
  Φ _ := Pipeline.ΦA spec0 c
  q _ := fullShare
  owed _ := 0

theorem dat0_A (w : Fin cfg0.W) : (dat0 V c).A w = V c (Pipeline.arrRef spec0 w) := by dsimp only [dat0]

theorem after0_2 (t : Fin cfg0.N) : (dat0 V c).after 2 t = (stats V c t.val t.isLt).1 := by dsimp only [dat0]
theorem after0_3 (t : Fin cfg0.N) : (dat0 V c).after 3 t = (stats V c t.val t.isLt).2 := by dsimp only [dat0]

/-- Each input's buffer holds its block, fetched at this point or kept from the one before. -/
theorem before0_0 (t : Fin cfg0.N) (d) : (dat0 V c).before 0 t d = blk0 V c 0 t :=
  (dat0 V c).before_in_eq_fetched 0 rfl (fun _ => rfl) (fun _ _ _ => rfl) (fun _ => rfl) t d
theorem before0_1 (t : Fin cfg0.N) (d) : (dat0 V c).before 1 t d = blk0 V c 1 t :=
  (dat0 V c).before_in_eq_fetched 1 rfl (fun _ => rfl) (fun _ _ _ => rfl) (fun _ => rfl) t d

/-- After the first point an accumulator's buffer holds what the point before left. -/
theorem before0_2 (t : Fin cfg0.N) (h : t.val ≠ 0) (d) :
    (dat0 V c).before 2 t d = (stats V c (t.val - 1) (Nat.lt_of_le_of_lt (Nat.sub_le _ _) t.isLt)).1 := by
  have hN : t.val < 64 := lt_of_lt_of_eq t.isLt N_0
  rw [Dat.before_out_kept _ 2 rfl t (by omega) (Bool.eq_false_iff.mpr fun h => by have := (flush0_2 _).mp h; dsimp only at this; omega)
    (fun _ => rfl) (fun _ _ => rfl)]
  dsimp only [dat0]
theorem before0_3 (t : Fin cfg0.N) (h : t.val ≠ 0) (d) :
    (dat0 V c).before 3 t d = (stats V c (t.val - 1) (Nat.lt_of_le_of_lt (Nat.sub_le _ _) t.isLt)).2 := by
  have hN : t.val < 64 := lt_of_lt_of_eq t.isLt N_0
  rw [Dat.before_out_kept _ 3 rfl t (by omega) (Bool.eq_false_iff.mpr fun h => by have := (flush0_3 _).mp h; dsimp only at this; omega)
    (fun _ => rfl) (fun _ _ => rfl)]
  dsimp only [dat0]

set_option maxHeartbeats 800000 in
/-- The body at any point of the grid, from the proof data before the point to the proof data after it. -/
theorem sound0 (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d))
      ∗ (∃ d, owns (c : Thread nD τ) (win0_3.stage (cfg0.slots t 3)) fullShare ((dat0 V c).before 3 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (win0_0.stage (cfg0.slots t 0)) fullShare (blk0 V c 0 t)
        ∗ owns (c : Thread nD τ) (win0_1.stage (cfg0.slots t 1)) fullShare (blk0 V c 1 t)
        ∗ owns (c : Thread nD τ) (win0_2.stage (cfg0.slots t 2)) fullShare (stats V c t.val t.isLt).1
        ∗ owns (c : Thread nD τ) (win0_3.stage (cfg0.slots t 3)) fullShare (stats V c t.val t.isLt).2)) := by
  unfold bodyAt0
  simp only [before0_0, before0_1]
  by_cases h0 : t.val = 0
  · rw [stats_zero V c t h0]
    iintro ⟨HΦ, Ho, ⟨%d0, H0⟩, ⟨%d1, H1⟩, ⟨%d2, H2⟩, ⟨%d3, H3⟩⟩
    iapply (run0_first c (grid0.coords t) _ _ _ _ _ _ _ _ (blk0 V c 0 t) (blk0 V c 1 t) Set.univ _ ((cond0_iff t).mpr h0))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [stats_pos V c t h0]
    simp only [before0_2 V c t h0, before0_3 V c t h0]
    iintro ⟨HΦ, Ho, ⟨%d0, H0⟩, ⟨%d1, H1⟩, ⟨%d2, H2⟩, ⟨%d3, H3⟩⟩
    iapply (run0_next c (grid0.coords t) _ _ _ _ _ _ _ _ (blk0 V c 0 t) (blk0 V c 1 t) Set.univ _ (fun h => h0 ((cond0_iff t).mp h)) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The launch's body obligation. -/
theorem obligation0 : BodyObligation (dat0 (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound0 V c t) rfl .rfl fun _ => .rfl

end Region

end Cert.KernelIdeal.Net

end
-- ==== Proof.Embed.lean ====
/- The second launch of the kernel: batch normalisation folded to a scale and a shift per column at the first point and
   kept in scratch, then at each point a block of `leaky (x @ W0ᵀ * scale + shift) @ W1ᵀ + b1`. -/
module

public import proofs.«01_k».proof.Proof.Base

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of the eight that hold a column sum. -/
abbrev rowHs : LoadRect S8x512 := (Rect.unit (s := S8x512) ![0, 0] S1x512.size inb_S8x512_S1x512_0_0).toLoadRect

/-- The condition of the body's branch, from the grid coordinates. -/
abbrev cond1 (i : grid1.Coords) : Prop :=
  (Scalar.cmpi .ne (Scalar.extui (Scalar.cmpi .eq (BitVec.ofNat 32 (i 0).val) 0#32)) 0#32) = 1#1

/-- It holds at the first point alone. -/
theorem cond1_iff (t : Fin cfg1.N) : cond1 (grid1.coords t) ↔ t.val = 0 := by
  have ht : t.val < 64 := Nat.lt_of_lt_of_eq t.isLt N_1
  have e0 : (grid1.coords t 0).val = t.val / 1 % 64 := Pipeline.Grid.coords_val t 0 (by decide) rfl
  simp only [cond1, e0]
  word_cmp

/-- The scale from the two rows of sums and the learnt factor. -/
abbrev scaleOf (hs hss : Vec F S8x512 .f32) (g : Vec F S1x512 .f32) : Vec F S1x512 .f32 := k1_pay3 (part rowHs hs) (part rowHs hss) g

/-- The shift from the two rows of sums, the learnt factor and the learnt offset. -/
abbrev shiftOf (hs hss : Vec F S8x512 .f32) (g b : Vec F S1x512 .f32) : Vec F S1x512 .f32 := k1_pay4 (part rowHs hs) (part rowHs hss) g b

set_option maxHeartbeats 1000000 in
/-- The body where its branch is taken: the scale and shift are computed and put in scratch. -/
theorem run1_first (c : Dev nD) (i : grid1.Coords) (arg1 : Memref sig .tc .vmem S4096x256 .f32) (harg1 : arg1.IsWhole) (arg2 : Memref sig .tc .vmem S8x512 .f32) (harg2 : arg2.IsWhole)
    (arg3 : Memref sig .tc .vmem S8x512 .f32) (harg3 : arg3.IsWhole) (arg4 : Memref sig .tc .vmem S512x256 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S256x512 .f32) (harg7 : arg7.IsWhole) (arg8 : Memref sig .tc .vmem S1x128 .f32) (harg8 : arg8.IsWhole)
    (arg9 : Memref sig .tc .vmem S4096x128 .f32) (harg9 : arg9.IsWhole) (arg10 : Memref sig .tc .vmem S1x512 .f32) (harg10 : arg10.IsWhole)
    (arg11 : Memref sig .tc .vmem S1x512 .f32) (harg11 : arg11.IsWhole) (x0 : Vec F S4096x256 .f32) (x1 : Vec F S8x512 .f32) (x2 : Vec F S8x512 .f32) (x3 : Vec F S512x256 .f32) (x4 : Vec F S1x512 .f32) (x5 : Vec F S1x512 .f32) (x6 : Vec F S256x512 .f32) (x7 : Vec F S1x128 .f32)
    (E : Set ℕ) (K : PUnit → sProp 𝕄) (hc : cond1 i) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
            ∗ owns (c : Thread nD τ) arg9 fullShare (k1_pay5 x0 x3 (scaleOf x1 x2 x4) (shiftOf x1 x2 x4 x5) x6 x7)
            ∗ owns (c : Thread nD τ) arg10 fullShare (scaleOf x1 x2 x4) ∗ owns (c : Thread nD τ) arg11 fullShare (shiftOf x1 x2 x4 x5)) -∗ K ⟨⟩))
      ⊢ wp frame (wpE (defs₀ (F := F)) Variants.none c none) E (cc1_tapnet_embed i arg1 harg1 arg2 harg2 arg3 harg3 arg4 harg4 arg5 harg5 arg6 harg6 arg7 harg7 arg8 harg8 arg9 harg9 arg10 harg10 arg11 harg11) K := by
  simp only [cc1_tapnet_embed_eq_skeleton]; unfold cc1_tapnet_embed_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro; sl_unfold_run_names
    refine (View.read_writes_full _ _ _ _ _).trans ?_
    rw [View.readCov_full, View.readCov_full, readAt_whole _ _ hf0, readAt_whole _ _ hf3, readAt_whole _ _ hf4, readAt_whole _ _ hf5, readAt_whole _ _ hf6, readAt_whole _ _ hf7, readAt_part _ _ _ _ hf1, readAt_part _ _ _ _ hf2]
  isplitl [H9]
  · iexists _; isplitr
    swap; · iexact H9
    ipureintro; sl_unfold_run_names
    refine (View.read_writes_full _ _ _ _ _).trans ?_
    rw [readAt_whole _ _ hf4, readAt_part _ _ _ _ hf1, readAt_part _ _ _ _ hf2]
  iexists _; isplitr
  swap; · iexact H10
  ipureintro; sl_unfold_run_names
  refine (View.read_writes_full _ _ _ _ _).trans ?_
  rw [readAt_whole _ _ hf4, readAt_whole _ _ hf5, readAt_part _ _ _ _ hf1, readAt_part _ _ _ _ hf2]

set_option maxHeartbeats 1000000 in
/-- The body where its branch is not taken: the scale and shift are read from scratch. -/
theorem run1_next (c : Dev nD) (i : grid1.Coords) (arg1 : Memref sig .tc .vmem S4096x256 .f32) (harg1 : arg1.IsWhole) (arg2 : Memref sig .tc .vmem S8x512 .f32) (harg2 : arg2.IsWhole)
    (arg3 : Memref sig .tc .vmem S8x512 .f32) (harg3 : arg3.IsWhole) (arg4 : Memref sig .tc .vmem S512x256 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S256x512 .f32) (harg7 : arg7.IsWhole) (arg8 : Memref sig .tc .vmem S1x128 .f32) (harg8 : arg8.IsWhole)
    (arg9 : Memref sig .tc .vmem S4096x128 .f32) (harg9 : arg9.IsWhole) (arg10 : Memref sig .tc .vmem S1x512 .f32) (harg10 : arg10.IsWhole)
    (arg11 : Memref sig .tc .vmem S1x512 .f32) (harg11 : arg11.IsWhole) (x0 : Vec F S4096x256 .f32) (x1 : Vec F S8x512 .f32) (x2 : Vec F S8x512 .f32) (x3 : Vec F S512x256 .f32) (x4 : Vec F S1x512 .f32) (x5 : Vec F S1x512 .f32) (x6 : Vec F S256x512 .f32) (x7 : Vec F S1x128 .f32)
    (E : Set ℕ) (K : PUnit → sProp 𝕄) (hc : ¬cond1 i) (sc sh : Vec F S1x512 .f32) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d) ∗ owns (c : Thread nD τ) arg10 fullShare sc ∗ owns (c : Thread nD τ) arg11 fullShare sh
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
            ∗ owns (c : Thread nD τ) arg9 fullShare (k1_pay5 x0 x3 sc sh x6 x7)
            ∗ owns (c : Thread nD τ) arg10 fullShare sc ∗ owns (c : Thread nD τ) arg11 fullShare sh) -∗ K ⟨⟩))
      ⊢ wp frame (wpE (defs₀ (F := F)) Variants.none c none) E (cc1_tapnet_embed i arg1 harg1 arg2 harg2 arg3 harg3 arg4 harg4 arg5 harg5 arg6 harg6 arg7 harg7 arg8 harg8 arg9 harg9 arg10 harg10 arg11 harg11) K := by
  simp only [cc1_tapnet_embed_eq_skeleton]; unfold cc1_tapnet_embed_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro; sl_unfold_run_names
    refine (View.read_writes_full _ _ _ _ _).trans ?_
    rw [readAt_whole _ _ hf0, readAt_whole _ _ hf3, readAt_whole _ _ hf6, readAt_whole _ _ hf7, readAt_whole _ _ hf9, readAt_whole _ _ hf10]
  isplitl [H9]; · iexists _; isplitr; · ipureintro; exact hf9
                  iexact H9
  iexists _; isplitr; · ipureintro; exact hf10
  iexact H10

section Region

-- what the arrays hold when the launch is entered
variable (V : (c : Dev nD) → (b : Ref sig .tc) → Buf (Elt F) ((c : Thread nD τ).loc b)) (c : Dev nD)

/-- Window `w`'s block of its array at point `t`. -/
def blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the grid. -/
abbrev start1 : Fin cfg1.N := ⟨0, by rw [show cfg1.N = 64 from N_1]; decide⟩

/-- The scale every point uses, computed at the first. -/
def scale1 : Vec F S1x512 .f32 := scaleOf (blk1 V c 1 start1) (blk1 V c 2 start1) (blk1 V c 4 start1)
/-- The shift every point uses, computed at the first. -/
def shift1 : Vec F S1x512 .f32 := shiftOf (blk1 V c 1 start1) (blk1 V c 2 start1) (blk1 V c 4 start1) (blk1 V c 5 start1)

/-- The block of embeddings point `t` computes. -/
def emb1 (t : Fin cfg1.N) : Vec F S4096x128 .f32 :=
  k1_pay5 (blk1 V c 0 t) (blk1 V c 3 t) (scale1 V c) (shift1 V c) (blk1 V c 6 t) (blk1 V c 7 t)

/-- Between points: before the first the scratch holds anything, afterwards the scale and the shift. -/
def Φ1 : (n : ℕ) → n ≤ cfg1.N → sProp 𝕄
  | 0, _ => Pipeline.ΦA spec1 c
  | _ + 1, _ => iprop(((owns (c : Thread nD τ) (Memref.whole cc1_scratch0) fullShare (scale1 V c)
      ∗ owns (c : Thread nD τ) (Memref.whole cc1_scratch1) fullShare (shift1 V c))
      ∗ Pipeline.scopedRestBut (Ix := Unit) (Name := ℕ) (U := UR sig nD τ) (Lvl := ℕ) (Val := Elt F) spec1 c [cc1_scratch0, cc1_scratch1])
      ∗ ∃ r, prngReg c r)

theorem Φ1_pos (n : ℕ) (h : n ≤ cfg1.N) (hz : n ≠ 0) : Φ1 V c n h = iprop(((owns (c : Thread nD τ) (Memref.whole cc1_scratch0) fullShare (scale1 V c)
      ∗ owns (c : Thread nD τ) (Memref.whole cc1_scratch1) fullShare (shift1 V c))
      ∗ Pipeline.scopedRestBut (Ix := Unit) (Name := ℕ) (U := UR sig nD τ) (Lvl := ℕ) (Val := Elt F) spec1 c [cc1_scratch0, cc1_scratch1])
      ∗ ∃ r, prngReg c r) := by
  cases n with
  | zero => exact absurd rfl hz
  | succ n => rfl

/-- What the launch enters its first point with, the two scratch buffers taken out. -/
theorem Φ1_start : (Pipeline.ΦA spec1 c : sProp 𝕄) = iprop((((∃ d, owns (c : Thread nD τ) (Memref.whole cc1_scratch0) fullShare d)
      ∗ (∃ d, owns (c : Thread nD τ) (Memref.whole cc1_scratch1) fullShare d))
      ∗ Pipeline.scopedRestBut (Ix := Unit) (Name := ℕ) (U := UR sig nD τ) (Lvl := ℕ) (Val := Elt F) spec1 c [cc1_scratch0, cc1_scratch1])
      ∗ ∃ r, prngReg c r) := by
  unfold Pipeline.ΦA
  rw [Pipeline.scopedRest_split_of_list spec1 c [cc1_scratch0, cc1_scratch1] (by decide) (by decide)]
  simp only [owns_whole]
  rfl

/-- The launch's proof data. -/
def dat1 : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => emb1 V c t
  Φ t := Φ1 V c t.val (Nat.le_of_lt_succ t.isLt)
  q _ := fullShare
  owed _ := 0

theorem dat1_A (w : Fin cfg1.W) : (dat1 V c).A w = V c (Pipeline.arrRef spec1 w) := by dsimp only [dat1]

theorem after1_8 (t : Fin cfg1.N) : (dat1 V c).after 8 t = emb1 V c t := by dsimp only [dat1]

theorem Φ1_castSucc (t : Fin cfg1.N) : (dat1 V c).Φ t.castSucc = Φ1 V c t.val (Nat.le_of_lt t.isLt) := by
  dsimp only [dat1]; exact Pipeline.Dat.Φ_castSucc (Φ1 V c) t

/-- Each input's buffer holds its block, fetched at this point or kept from the one before. -/
theorem before1_0 (t : Fin cfg1.N) (d) : (dat1 V c).before 0 t d = blk1 V c 0 t :=
  (dat1 V c).before_in_eq_fetched 0 rfl (fun _ => rfl) (fun _ _ _ => rfl) (fun _ => rfl) t d
theorem before1_1 (t : Fin cfg1.N) (d) : (dat1 V c).before 1 t d = blk1 V c 1 t :=
  (dat1 V c).before_in_eq_fetched 1 rfl (fun _ => rfl) (fun _ _ _ => rfl) (fun _ => rfl) t d
theorem before1_2 (t : Fin cfg1.N) (d) : (dat1 V c).before 2 t d = blk1 V c 2 t :=
  (dat1 V c).before_in_eq_fetched 2 rfl (fun _ => rfl) (fun _ _ _ => rfl) (fun _ => rfl) t d
theorem before1_3 (t : Fin cfg1.N) (d) : (dat1 V c).before 3 t d = blk1 V c 3 t :=
  (dat1 V c).before_in_eq_fetched 3 rfl (fun _ => rfl) (fun _ _ _ => rfl) (fun _ => rfl) t d
theorem before1_4 (t : Fin cfg1.N) (d) : (dat1 V c).before 4 t d = blk1 V c 4 t :=
  (dat1 V c).before_in_eq_fetched 4 rfl (fun _ => rfl) (fun _ _ _ => rfl) (fun _ => rfl) t d
theorem before1_5 (t : Fin cfg1.N) (d) : (dat1 V c).before 5 t d = blk1 V c 5 t :=
  (dat1 V c).before_in_eq_fetched 5 rfl (fun _ => rfl) (fun _ _ _ => rfl) (fun _ => rfl) t d
theorem before1_6 (t : Fin cfg1.N) (d) : (dat1 V c).before 6 t d = blk1 V c 6 t :=
  (dat1 V c).before_in_eq_fetched 6 rfl (fun _ => rfl) (fun _ _ _ => rfl) (fun _ => rfl) t d
theorem before1_7 (t : Fin cfg1.N) (d) : (dat1 V c).before 7 t d = blk1 V c 7 t :=
  (dat1 V c).before_in_eq_fetched 7 rfl (fun _ => rfl) (fun _ _ _ => rfl) (fun _ => rfl) t d

set_option maxHeartbeats 1600000 in
/-- The body at any point of the grid, from the proof data before the point to the proof data after it. -/
theorem sound1 (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (win1_3.stage (cfg1.slots t 3)) fullShare ((dat1 V c).before 3 t d))
      ∗ (∃ d, owns (c : Thread nD τ) (win1_4.stage (cfg1.slots t 4)) fullShare ((dat1 V c).before 4 t d))
      ∗ (∃ d, owns (c : Thread nD τ) (win1_5.stage (cfg1.slots t 5)) fullShare ((dat1 V c).before 5 t d))
      ∗ (∃ d, owns (c : Thread nD τ) (win1_6.stage (cfg1.slots t 6)) fullShare ((dat1 V c).before 6 t d))
      ∗ (∃ d, owns (c : Thread nD τ) (win1_7.stage (cfg1.slots t 7)) fullShare ((dat1 V c).before 7 t d))
      ∗ (∃ d, owns (c : Thread nD τ) (win1_8.stage (cfg1.slots t 8)) fullShare ((dat1 V c).before 8 t d)))
    ⊢ wp frame (wpE (defs₀ (F := F)) Variants.none c none) Set.univ (bodyAt1 t) (fun _ =>
      iprop((dat1 V c).Φ t.succ ∗ (dat1 V c).owesAt () t.castSucc
        ∗ owns (c : Thread nD τ) (win1_0.stage (cfg1.slots t 0)) fullShare (blk1 V c 0 t)
        ∗ owns (c : Thread nD τ) (win1_1.stage (cfg1.slots t 1)) fullShare (blk1 V c 1 t)
        ∗ owns (c : Thread nD τ) (win1_2.stage (cfg1.slots t 2)) fullShare (blk1 V c 2 t)
        ∗ owns (c : Thread nD τ) (win1_3.stage (cfg1.slots t 3)) fullShare (blk1 V c 3 t)
        ∗ owns (c : Thread nD τ) (win1_4.stage (cfg1.slots t 4)) fullShare (blk1 V c 4 t)
        ∗ owns (c : Thread nD τ) (win1_5.stage (cfg1.slots t 5)) fullShare (blk1 V c 5 t)
        ∗ owns (c : Thread nD τ) (win1_6.stage (cfg1.slots t 6)) fullShare (blk1 V c 6 t)
        ∗ owns (c : Thread nD τ) (win1_7.stage (cfg1.slots t 7)) fullShare (blk1 V c 7 t)
        ∗ owns (c : Thread nD τ) (win1_8.stage (cfg1.slots t 8)) fullShare (emb1 V c t))) := by
  unfold bodyAt1
  simp only [before1_0, before1_1, before1_2, before1_3, before1_4, before1_5, before1_6, before1_7]
  rw [show (dat1 V c).Φ t.succ = Φ1 V c (t.val + 1) t.isLt from rfl, Φ1_pos V c _ _ (Nat.succ_ne_zero _), Φ1_castSucc]
  by_cases h0 : t.val = 0
  · rw [show Φ1 V c t.val (Nat.le_of_lt t.isLt) = Pipeline.ΦA spec1 c by
      obtain ⟨n, hn⟩ := t; obtain rfl : n = 0 := h0; rfl, Φ1_start]
    obtain rfl : t = start1 := Fin.ext h0
    unfold emb1 scale1 shift1
    generalize start1 = t at *
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_first c (grid1.coords t) _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) Set.univ _ ((cond1_iff t).mpr h0))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]; · isplitl [HS0] <;> iassumption
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Φ1_pos V c _ _ h0]
    unfold emb1
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_next c (grid1.coords t) _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) Set.univ _ (fun h => h0 ((cond1_iff t).mp h)) (scale1 V c) (shift1 V c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]; · isplitl [HS0] <;> iassumption
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The launch's body obligation. -/
theorem obligation1 : BodyObligation (dat1 (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (sound1 V c t) rfl .rfl fun _ => .rfl

/-- What the launch leaves its last point with gives back what it entered the first with. -/
theorem Φ1_end : (dat1 V c).Φ (Fin.last cfg1.N) ⊢ (Pipeline.ΦA spec1 c : sProp 𝕄) := by
  rw [show (dat1 V c).Φ (Fin.last cfg1.N) = Φ1 V c cfg1.N (Nat.le_refl _) from rfl,
    Φ1_pos V c _ _ (by rw [show cfg1.N = 64 from N_1]; decide), Φ1_start]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

end Cert.KernelIdeal.Net

end
-- ==== Proof.Attend.lean ====
/- The third launch of the kernel: the attention scores of a block of training rows for every class, folded over the 64
   blocks into a running maximum, the sum of the exponentials and the sum of the exponentials times the embeddings. -/
module

public import proofs.«01_k».proof.Proof.Base

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Lanes `512 k` to `512 k + 511` of the stacked attention weights, eight per row block, and of a stacked row. -/
abbrev wBox (k : Fin 8) : LoadRect S128x4096 :=
  (Rect.unit (s := S128x4096) ![0, 512 * k.val] S128x512.size (by
    intro a; fin_cases k <;> fin_cases a <;> decide)).toLoadRect
abbrev rBox (k : Fin 8) : LoadRect S1x4096 :=
  (Rect.unit (s := S1x4096) ![0, 512 * k.val] S1x512.size (by
    intro a; fin_cases k <;> fin_cases a <;> decide)).toLoadRect

/-- The masked scores of a block of training rows, from its embeddings `e`, its labels `lab`, the stacked weights `w`, and
    the stacked rows `b` (first layer's offsets) and `v` (second layer's weights). -/
def scores (e : Vec F S2048x128 .f32) (lab : Vec F S1x1x2048 .i32) (w : Vec F S128x4096 .f32) (b v : Vec F S1x4096 .f32) :
    FVec F S2048x128 .f32 :=
  k2_pay19 (k2_pay11 e) (k2_pay12 lab)
    (k2_pay16 (k2_pay11 e)
      (k2_pay15 (k2_pay11 e)
        (k2_pay13 e (part (wBox 0) w) (part (rBox 0) b) (part (rBox 0) v))
        (k2_pay14 e (part (wBox 1) w) (part (rBox 1) b) (part (rBox 1) v))
        (part (wBox 2) w) (part (rBox 2) b) (part (rBox 2) v) (part (wBox 3) w) (part (rBox 3) b) (part (rBox 3) v))
      (part (wBox 4) w) (part (rBox 4) b) (part (rBox 4) v) (part (wBox 5) w) (part (rBox 5) b) (part (rBox 5) v))
    (k2_pay17 (k2_pay11 e) (part (wBox 6) w)) (part (rBox 6) b) (part (rBox 6) v)
    (part (wBox 7) w) (part (rBox 7) b) (part (rBox 7) v)

/-- Which rows of the block belong to which class. -/
def member (lab : Vec F S1x1x2048 .i32) : IVec S2048x128 1 := k2_pay18 (k2_pay12 (F := F) lab)

/-- The sum of exponentials after one more block, from what the running maximum `mx` and the sum `dn` were. -/
def dnNext (e : Vec F S2048x128 .f32) (lab : Vec F S1x1x2048 .i32) (w : Vec F S128x4096 .f32) (b v : Vec F S1x4096 .f32)
    (dn mx : Vec F S8x128 .f32) : Vec F S8x128 .f32 := k2_pay5 (member lab) (scores e lab w b v) mx dn
/-- The weighted sum of embeddings after one more block. -/
def nmNext (e : Vec F S2048x128 .f32) (lab : Vec F S1x1x2048 .i32) (w : Vec F S128x4096 .f32) (b v : Vec F S1x4096 .f32)
    (nm : Vec F S128x128 .f32) (mx : Vec F S8x128 .f32) : Vec F S128x128 .f32 :=
  k2_pay6 (k2_pay11 e) (member lab) (scores e lab w b v) mx nm
/-- The running maximum after one more block. -/
def mxNext (e : Vec F S2048x128 .f32) (lab : Vec F S1x1x2048 .i32) (w : Vec F S128x4096 .f32) (b v : Vec F S1x4096 .f32)
    (mx : Vec F S8x128 .f32) : Vec F S8x128 .f32 := k2_pay7 (scores e lab w b v) mx

/-- The condition of the body's branch, from the grid coordinates. -/
abbrev cond2 (i : grid2.Coords) : Prop :=
  (Scalar.cmpi .ne (Scalar.extui (Scalar.cmpi .eq (BitVec.ofNat 32 (i 0).val) 0#32)) 0#32) = 1#1

/-- It holds at the first point alone. -/
theorem cond2_iff (t : Fin cfg2.N) : cond2 (grid2.coords t) ↔ t.val = 0 := by
  have ht : t.val < 64 := Nat.lt_of_lt_of_eq t.isLt N_2
  have e0 : (grid2.coords t 0).val = t.val / 1 % 64 := Pipeline.Grid.coords_val t 0 (by decide) rfl
  simp only [cond2, e0]
  word_cmp

set_option maxHeartbeats 4000000 in
/-- The body where its branch is taken: the sums start from zero and the maximum from the kernel's stand-in for minus infinity. -/
theorem run2_first (c : Dev nD) (i : grid2.Coords) (arg1 : Memref sig .tc .vmem S2048x128 .f32) (harg1 : arg1.IsWhole) (arg2 : Memref sig .tc .vmem S1x1x2048 .i32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S8x128 .f32) (harg6 : arg6.IsWhole)
    (arg7 : Memref sig .tc .vmem S128x128 .f32) (harg7 : arg7.IsWhole) (arg8 : Memref sig .tc .vmem S8x128 .f32) (harg8 : arg8.IsWhole)
    (x0 : Vec F S2048x128 .f32) (x1 : Vec F S1x1x2048 .i32) (x2 : Vec F S128x4096 .f32) (x3 : Vec F S1x4096 .f32) (x4 : Vec F S1x4096 .f32)
    (E : Set ℕ) (K : PUnit → sProp 𝕄) (hc : cond2 i) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (dnNext x0 x1 x2 x3 x4 k2_pay8 k2_pay10)
            ∗ owns (c : Thread nD τ) arg7 fullShare (nmNext x0 x1 x2 x3 x4 k2_pay9 k2_pay10)
            ∗ owns (c : Thread nD τ) arg8 fullShare (mxNext x0 x1 x2 x3 x4 k2_pay10)) -∗ K ⟨⟩))
      ⊢ wp frame (wpE (defs₀ (F := F)) Variants.none c none) E (cc2_tapnet_attend i arg1 harg1 arg2 harg2 arg3 harg3 arg4 harg4 arg5 harg5 arg6 harg6 arg7 harg7 arg8 harg8) K := by
  simp only [cc2_tapnet_attend_eq_skeleton]; unfold cc2_tapnet_attend_skel
  simp only [k2_part1_eq_skeleton, k2_part2_eq_skeleton, k2_part3_eq_skeleton, k2_part4_eq_skeleton]
  unfold k2_part1_skel k2_part2_skel k2_part3_skel k2_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro; sl_unfold_run_names
    refine (View.read_writes_full _ _ _ _ _).trans ?_
    rw [View.readCov_full, View.readCov_full]
    rw [readAt_whole _ _ hf0, readAt_whole _ _ hf1]
    simp only [readAt_part arg3.view _ _ _ hf2, readAt_part arg4.view _ _ _ hf3, readAt_part arg5.view _ _ _ hf4]
    rfl
  isplitl [H6]
  · iexists _; isplitr
    swap; · iexact H6
    ipureintro; sl_unfold_run_names
    refine (View.read_writes_full _ _ _ _ _).trans ?_
    rw [View.readCov_full, View.readCov_full]
    rw [readAt_whole _ _ hf0, readAt_whole _ _ hf1]
    simp only [readAt_part arg3.view _ _ _ hf2, readAt_part arg4.view _ _ _ hf3, readAt_part arg5.view _ _ _ hf4]
    rfl
  · iexists _; isplitr
    swap; · iexact H7
    ipureintro; sl_unfold_run_names
    refine (View.read_writes_full _ _ _ _ _).trans ?_
    rw [View.readCov_full]
    rw [readAt_whole _ _ hf0, readAt_whole _ _ hf1]
    simp only [readAt_part arg3.view _ _ _ hf2, readAt_part arg4.view _ _ _ hf3, readAt_part arg5.view _ _ _ hf4]
    rfl

set_option maxHeartbeats 4000000 in
/-- The body where its branch is not taken: the sums and the maximum go on from what they hold. -/
theorem run2_next (c : Dev nD) (i : grid2.Coords) (arg1 : Memref sig .tc .vmem S2048x128 .f32) (harg1 : arg1.IsWhole) (arg2 : Memref sig .tc .vmem S1x1x2048 .i32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole) (arg6 : Memref sig .tc .vmem S8x128 .f32) (harg6 : arg6.IsWhole)
    (arg7 : Memref sig .tc .vmem S128x128 .f32) (harg7 : arg7.IsWhole) (arg8 : Memref sig .tc .vmem S8x128 .f32) (harg8 : arg8.IsWhole)
    (x0 : Vec F S2048x128 .f32) (x1 : Vec F S1x1x2048 .i32) (x2 : Vec F S128x4096 .f32) (x3 : Vec F S1x4096 .f32) (x4 : Vec F S1x4096 .f32)
    (E : Set ℕ) (K : PUnit → sProp 𝕄) (hc : ¬cond2 i) (dn : Vec F S8x128 .f32) (nm : Vec F S128x128 .f32) (mx : Vec F S8x128 .f32) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare dn ∗ owns (c : Thread nD τ) arg7 fullShare nm ∗ owns (c : Thread nD τ) arg8 fullShare mx
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (dnNext x0 x1 x2 x3 x4 dn mx)
            ∗ owns (c : Thread nD τ) arg7 fullShare (nmNext x0 x1 x2 x3 x4 nm mx)
            ∗ owns (c : Thread nD τ) arg8 fullShare (mxNext x0 x1 x2 x3 x4 mx)) -∗ K ⟨⟩))
      ⊢ wp frame (wpE (defs₀ (F := F)) Variants.none c none) E (cc2_tapnet_attend i arg1 harg1 arg2 harg2 arg3 harg3 arg4 harg4 arg5 harg5 arg6 harg6 arg7 harg7 arg8 harg8) K := by
  simp only [cc2_tapnet_attend_eq_skeleton]; unfold cc2_tapnet_attend_skel
  simp only [k2_part1_eq_skeleton, k2_part2_eq_skeleton, k2_part3_eq_skeleton, k2_part4_eq_skeleton]
  unfold k2_part1_skel k2_part2_skel k2_part3_skel k2_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro; sl_unfold_run_names
    refine (View.read_writes_full _ _ _ _ _).trans ?_
    rw [readAt_whole _ _ hf7, readAt_whole _ _ hf5]
    rw [readAt_whole _ _ hf0, readAt_whole _ _ hf1]
    simp only [readAt_part arg3.view _ _ _ hf2, readAt_part arg4.view _ _ _ hf3, readAt_part arg5.view _ _ _ hf4]
    rfl
  isplitl [H6]
  · iexists _; isplitr
    swap; · iexact H6
    ipureintro; sl_unfold_run_names
    refine (View.read_writes_full _ _ _ _ _).trans ?_
    rw [readAt_whole _ _ hf7, readAt_whole _ _ hf6]
    rw [readAt_whole _ _ hf0, readAt_whole _ _ hf1]
    simp only [readAt_part arg3.view _ _ _ hf2, readAt_part arg4.view _ _ _ hf3, readAt_part arg5.view _ _ _ hf4]
    rfl
  · iexists _; isplitr
    swap; · iexact H7
    ipureintro; sl_unfold_run_names
    refine (View.read_writes_full _ _ _ _ _).trans ?_
    rw [readAt_whole _ _ hf7]
    rw [readAt_whole _ _ hf0, readAt_whole _ _ hf1]
    simp only [readAt_part arg3.view _ _ _ hf2, readAt_part arg4.view _ _ _ hf3, readAt_part arg5.view _ _ _ hf4]
    rfl

section Region

-- what the arrays hold when the launch is entered
variable (V : (c : Dev nD) → (b : Ref sig .tc) → Buf (Elt F) ((c : Thread nD τ).loc b)) (c : Dev nD)

/-- Window `w`'s block of its array at point `t`. -/
def blk2 (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The sum of exponentials, the weighted sum and the running maximum after point `n`. -/
def pool : (n : ℕ) → n < cfg2.N → Vec F S8x128 .f32 × Vec F S128x128 .f32 × Vec F S8x128 .f32
  | 0, h => (dnNext (blk2 V c 0 ⟨0, h⟩) (blk2 V c 1 ⟨0, h⟩) (blk2 V c 2 ⟨0, h⟩) (blk2 V c 3 ⟨0, h⟩) (blk2 V c 4 ⟨0, h⟩) k2_pay8 k2_pay10,
      nmNext (blk2 V c 0 ⟨0, h⟩) (blk2 V c 1 ⟨0, h⟩) (blk2 V c 2 ⟨0, h⟩) (blk2 V c 3 ⟨0, h⟩) (blk2 V c 4 ⟨0, h⟩) k2_pay9 k2_pay10,
      mxNext (blk2 V c 0 ⟨0, h⟩) (blk2 V c 1 ⟨0, h⟩) (blk2 V c 2 ⟨0, h⟩) (blk2 V c 3 ⟨0, h⟩) (blk2 V c 4 ⟨0, h⟩) k2_pay10)
  | n + 1, h => (dnNext (blk2 V c 0 ⟨n + 1, h⟩) (blk2 V c 1 ⟨n + 1, h⟩) (blk2 V c 2 ⟨n + 1, h⟩) (blk2 V c 3 ⟨n + 1, h⟩) (blk2 V c 4 ⟨n + 1, h⟩) (pool n (by omega)).1 (pool n (by omega)).2.2,
      nmNext (blk2 V c 0 ⟨n + 1, h⟩) (blk2 V c 1 ⟨n + 1, h⟩) (blk2 V c 2 ⟨n + 1, h⟩) (blk2 V c 3 ⟨n + 1, h⟩) (blk2 V c 4 ⟨n + 1, h⟩) (pool n (by omega)).2.1 (pool n (by omega)).2.2,
      mxNext (blk2 V c 0 ⟨n + 1, h⟩) (blk2 V c 1 ⟨n + 1, h⟩) (blk2 V c 2 ⟨n + 1, h⟩) (blk2 V c 3 ⟨n + 1, h⟩) (blk2 V c 4 ⟨n + 1, h⟩) (pool n (by omega)).2.2)

theorem pool_zero (t : Fin cfg2.N) (h : t.val = 0) : pool V c t.val t.isLt = (dnNext (blk2 V c 0 t) (blk2 V c 1 t) (blk2 V c 2 t) (blk2 V c 3 t) (blk2 V c 4 t) k2_pay8 k2_pay10,
      nmNext (blk2 V c 0 t) (blk2 V c 1 t) (blk2 V c 2 t) (blk2 V c 3 t) (blk2 V c 4 t) k2_pay9 k2_pay10,
      mxNext (blk2 V c 0 t) (blk2 V c 1 t) (blk2 V c 2 t) (blk2 V c 3 t) (blk2 V c 4 t) k2_pay10) := by
  obtain ⟨n, hn⟩ := t; obtain rfl : n = 0 := h; rfl

theorem pool_pos (t : Fin cfg2.N) (h : t.val ≠ 0) : pool V c t.val t.isLt = (dnNext (blk2 V c 0 t) (blk2 V c 1 t) (blk2 V c 2 t) (blk2 V c 3 t) (blk2 V c 4 t) (pool V c (t.val - 1) (Nat.lt_of_le_of_lt (Nat.sub_le _ _) t.isLt)).1 (pool V c (t.val - 1) (Nat.lt_of_le_of_lt (Nat.sub_le _ _) t.isLt)).2.2,
      nmNext (blk2 V c 0 t) (blk2 V c 1 t) (blk2 V c 2 t) (blk2 V c 3 t) (blk2 V c 4 t) (pool V c (t.val - 1) (Nat.lt_of_le_of_lt (Nat.sub_le _ _) t.isLt)).2.1 (pool V c (t.val - 1) (Nat.lt_of_le_of_lt (Nat.sub_le _ _) t.isLt)).2.2,
      mxNext (blk2 V c 0 t) (blk2 V c 1 t) (blk2 V c 2 t) (blk2 V c 3 t) (blk2 V c 4 t) (pool V c (t.val - 1) (Nat.lt_of_le_of_lt (Nat.sub_le _ _) t.isLt)).2.2) := by
  obtain ⟨n, hn⟩ := t
  cases n with
  | zero => exact absurd rfl h
  | succ n => rfl

/-- Between points: before the first the scratch holds anything, afterwards the running maximum. -/
def Φ2 : (n : ℕ) → n ≤ cfg2.N → sProp 𝕄
  | 0, _ => Pipeline.ΦA spec2 c
  | n + 1, h => iprop((owns (c : Thread nD τ) (Memref.whole cc2_scratch0) fullShare (pool V c n h).2.2
      ∗ Pipeline.scopedRestBut (Ix := Unit) (Name := ℕ) (U := UR sig nD τ) (Lvl := ℕ) (Val := Elt F) spec2 c [cc2_scratch0])
      ∗ ∃ r, prngReg c r)

theorem Φ2_pos (n : ℕ) (h : n ≤ cfg2.N) (hz : n ≠ 0) : Φ2 V c n h = iprop((owns (c : Thread nD τ) (Memref.whole cc2_scratch0) fullShare
      (pool V c (n - 1) (Nat.lt_of_lt_of_le (Nat.sub_lt (Nat.pos_of_ne_zero hz) Nat.one_pos) h)).2.2
      ∗ Pipeline.scopedRestBut (Ix := Unit) (Name := ℕ) (U := UR sig nD τ) (Lvl := ℕ) (Val := Elt F) spec2 c [cc2_scratch0])
      ∗ ∃ r, prngReg c r) := by
  cases n with
  | zero => exact absurd rfl hz
  | succ n => rfl

theorem Φ2_succ (n : ℕ) (h : n + 1 ≤ cfg2.N) : Φ2 V c (n + 1) h = iprop((owns (c : Thread nD τ) (Memref.whole cc2_scratch0) fullShare (pool V c n h).2.2
      ∗ Pipeline.scopedRestBut (Ix := Unit) (Name := ℕ) (U := UR sig nD τ) (Lvl := ℕ) (Val := Elt F) spec2 c [cc2_scratch0])
      ∗ ∃ r, prngReg c r) := rfl

/-- What the launch enters its first point with, the scratch buffer taken out. -/
theorem Φ2_start : (Pipeline.ΦA spec2 c : sProp 𝕄) = iprop(((∃ d, owns (c : Thread nD τ) (Memref.whole cc2_scratch0) fullShare d)
      ∗ Pipeline.scopedRestBut (Ix := Unit) (Name := ℕ) (U := UR sig nD τ) (Lvl := ℕ) (Val := Elt F) spec2 c [cc2_scratch0])
      ∗ ∃ r, prngReg c r) := by
  unfold Pipeline.ΦA
  rw [Pipeline.scopedRest_split_of_list spec2 c [cc2_scratch0] (by decide) (by decide)]
  simp only [owns_whole]
  rfl

/-- The launch's proof data. -/
def dat2 : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => (pool V c t.val t.isLt).1
    | ⟨6, _⟩ => (pool V c t.val t.isLt).2.1
  Φ t := Φ2 V c t.val (Nat.le_of_lt_succ t.isLt)
  q _ := fullShare
  owed _ := 0

theorem dat2_A (w : Fin cfg2.W) : (dat2 V c).A w = V c (Pipeline.arrRef spec2 w) := by dsimp only [dat2]

theorem after2_5 (t : Fin cfg2.N) : (dat2 V c).after 5 t = (pool V c t.val t.isLt).1 := by dsimp only [dat2]
theorem after2_6 (t : Fin cfg2.N) : (dat2 V c).after 6 t = (pool V c t.val t.isLt).2.1 := by dsimp only [dat2]

theorem Φ2_castSucc (t : Fin cfg2.N) : (dat2 V c).Φ t.castSucc = Φ2 V c t.val (Nat.le_of_lt t.isLt) := by
  dsimp only [dat2]; exact Pipeline.Dat.Φ_castSucc (Φ2 V c) t

/-- Each input's buffer holds its block, fetched at this point or kept from the one before. -/
theorem before2_0 (t : Fin cfg2.N) (d) : (dat2 V c).before 0 t d = blk2 V c 0 t :=
  (dat2 V c).before_in_eq_fetched 0 rfl (fun _ => rfl) (fun _ _ _ => rfl) (fun _ => rfl) t d
theorem before2_1 (t : Fin cfg2.N) (d) : (dat2 V c).before 1 t d = blk2 V c 1 t :=
  (dat2 V c).before_in_eq_fetched 1 rfl (fun _ => rfl) (fun _ _ _ => rfl) (fun _ => rfl) t d
theorem before2_2 (t : Fin cfg2.N) (d) : (dat2 V c).before 2 t d = blk2 V c 2 t :=
  (dat2 V c).before_in_eq_fetched 2 rfl (fun _ => rfl) (fun _ _ _ => rfl) (fun _ => rfl) t d
theorem before2_3 (t : Fin cfg2.N) (d) : (dat2 V c).before 3 t d = blk2 V c 3 t :=
  (dat2 V c).before_in_eq_fetched 3 rfl (fun _ => rfl) (fun _ _ _ => rfl) (fun _ => rfl) t d
theorem before2_4 (t : Fin cfg2.N) (d) : (dat2 V c).before 4 t d = blk2 V c 4 t :=
  (dat2 V c).before_in_eq_fetched 4 rfl (fun _ => rfl) (fun _ _ _ => rfl) (fun _ => rfl) t d

/-- After the first point an accumulator's buffer holds what the point before left. -/
theorem before2_5 (t : Fin cfg2.N) (h : t.val ≠ 0) (d) :
    (dat2 V c).before 5 t d = (pool V c (t.val - 1) (Nat.lt_of_le_of_lt (Nat.sub_le _ _) t.isLt)).1 := by
  have hN : t.val < 64 := lt_of_lt_of_eq t.isLt N_2
  rw [Dat.before_out_kept _ 5 rfl t (by omega) (Bool.eq_false_iff.mpr fun h => by have := (flush2_5 _).mp h; dsimp only at this; omega)
    (fun _ => rfl) (fun _ _ => rfl)]
  dsimp only [dat2]
theorem before2_6 (t : Fin cfg2.N) (h : t.val ≠ 0) (d) :
    (dat2 V c).before 6 t d = (pool V c (t.val - 1) (Nat.lt_of_le_of_lt (Nat.sub_le _ _) t.isLt)).2.1 := by
  have hN : t.val < 64 := lt_of_lt_of_eq t.isLt N_2
  rw [Dat.before_out_kept _ 6 rfl t (by omega) (Bool.eq_false_iff.mpr fun h => by have := (flush2_6 _).mp h; dsimp only at this; omega)
    (fun _ => rfl) (fun _ _ => rfl)]
  dsimp only [dat2]

set_option maxHeartbeats 1600000 in
/-- The body at any point of the grid, from the proof data before the point to the proof data after it. -/
theorem sound2 (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d))
      ∗ (∃ d, owns (c : Thread nD τ) (win2_5.stage (cfg2.slots t 5)) fullShare ((dat2 V c).before 5 t d))
      ∗ (∃ d, owns (c : Thread nD τ) (win2_6.stage (cfg2.slots t 6)) fullShare ((dat2 V c).before 6 t d)))
    ⊢ wp frame (wpE (defs₀ (F := F)) Variants.none c none) Set.univ (bodyAt2 t) (fun _ =>
      iprop((dat2 V c).Φ t.succ ∗ (dat2 V c).owesAt () t.castSucc
        ∗ owns (c : Thread nD τ) (win2_0.stage (cfg2.slots t 0)) fullShare (blk2 V c 0 t)
        ∗ owns (c : Thread nD τ) (win2_1.stage (cfg2.slots t 1)) fullShare (blk2 V c 1 t)
        ∗ owns (c : Thread nD τ) (win2_2.stage (cfg2.slots t 2)) fullShare (blk2 V c 2 t)
        ∗ owns (c : Thread nD τ) (win2_3.stage (cfg2.slots t 3)) fullShare (blk2 V c 3 t)
        ∗ owns (c : Thread nD τ) (win2_4.stage (cfg2.slots t 4)) fullShare (blk2 V c 4 t)
        ∗ owns (c : Thread nD τ) (win2_5.stage (cfg2.slots t 5)) fullShare (pool V c t.val t.isLt).1
        ∗ owns (c : Thread nD τ) (win2_6.stage (cfg2.slots t 6)) fullShare (pool V c t.val t.isLt).2.1)) := by
  unfold bodyAt2
  simp only [before2_0, before2_1, before2_2, before2_3, before2_4]
  rw [show (dat2 V c).Φ t.succ = Φ2 V c (t.val + 1) t.isLt from rfl, Φ2_succ, Φ2_castSucc]
  by_cases h0 : t.val = 0
  · rw [show Φ2 V c t.val (Nat.le_of_lt t.isLt) = Pipeline.ΦA spec2 c by
      obtain ⟨n, hn⟩ := t; obtain rfl : n = 0 := h0; rfl, Φ2_start, pool_zero V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run2_first c (grid2.coords t) _ _ _ _ _ _ _ _ _ _ _ _ _ _ _ _ (blk2 V c 0 t) (blk2 V c 1 t) (blk2 V c 2 t) (blk2 V c 3 t) (blk2 V c 4 t) Set.univ _ ((cond2_iff t).mpr h0))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Φ2_pos V c _ _ h0, pool_pos V c t h0]
    simp only [before2_5 V c t h0, before2_6 V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run2_next c (grid2.coords t) _ _ _ _ _ _ _ _ _ _ _ _ _ _ _ _ (blk2 V c 0 t) (blk2 V c 1 t) (blk2 V c 2 t) (blk2 V c 3 t) (blk2 V c 4 t) Set.univ _ (fun h => h0 ((cond2_iff t).mp h)) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The launch's body obligation. -/
theorem obligation2 : BodyObligation (dat2 (F := F) V c) (defs₀ (F := F)) Variants.none () Set.univ := fun t => by
  rw [bigSep_W2, bigSep_W2, show defs₀ (F := F) .tc cfg2.body (cfg2.bodyArgs t (cfg2.slots t)) = bodyAt2 t by
    unfold defs₀; rw [Defs.onTc_tc]]
  exact triple_restated (sound2 V c t) rfl .rfl fun _ => .rfl

/-- What the launch leaves its last point with gives back what it entered the first with. -/
theorem Φ2_end : (dat2 V c).Φ (Fin.last cfg2.N) ⊢ (Pipeline.ΦA spec2 c : sProp 𝕄) := by
  rw [show (dat2 V c).Φ (Fin.last cfg2.N) = Φ2 V c cfg2.N (Nat.le_refl _) from rfl,
    Φ2_pos V c _ _ (by rw [show cfg2.N = 64 from N_2]; decide), Φ2_start]
  iintro ⟨⟨HS, HR⟩, Hg⟩
  isplitl [HS HR]
  · isplitl [HS]; · iexists _; iexact HS
    iexact HR
  iexact Hg

end Region

end Cert.KernelIdeal.Net

end
-- ==== Proof.Dists.lean ====
/- The last launch of the kernel: prototypes from the pooled sums, then minus the squared distances of a block of embeddings
   to them, and the summed distances between prototypes. -/
module

public import proofs.«01_k».proof.Proof.Base

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of the eight that hold the denominators. -/
abbrev rowDn : LoadRect S8x128 := (Rect.unit (s := S8x128) ![0, 0] S1x128.size inb_S8x128_S1x128_0_0).toLoadRect

set_option maxHeartbeats 1000000 in
/-- The body: the block of distances and the prototypes' own distances, from the pooled sums and the block. -/
theorem run3 (c : Dev nD) (i : grid3.Coords) (arg1 : Memref sig .tc .vmem S8192x128 .f32) (harg1 : arg1.IsWhole)
    (arg2 : Memref sig .tc .vmem S8x128 .f32) (harg2 : arg2.IsWhole) (arg3 : Memref sig .tc .vmem S128x128 .f32) (harg3 : arg3.IsWhole)
    (arg4 : Memref sig .tc .vmem S8192x32 .f32) (harg4 : arg4.IsWhole) (arg5 : Memref sig .tc .vmem S8x128 .f32) (harg5 : arg5.IsWhole)
    (x0 : Vec F S8192x128 .f32) (x1 : Vec F S8x128 .f32) (x2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay4 (part rowDn x1) x2 x0)
            ∗ owns (c : Thread nD τ) arg5 fullShare (k3_pay1 (k3_pay5 (part rowDn x1) x2))) -∗ K ⟨⟩))
      ⊢ wp frame (wpE (defs₀ (F := F)) Variants.none c none) E (cc3_tapnet_dists i arg1 harg1 arg2 harg2 arg3 harg3 arg4 harg4 arg5 harg5) K := by
  simp only [cc3_tapnet_dists_eq_skeleton]; unfold cc3_tapnet_dists_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro; sl_unfold_run_names
    exact (View.read_writes_full _ _ _ _ _).trans (by rw [View.readAt_full, View.readAt_full, hf0, hf2, readAt_part _ _ _ _ hf1])
  iexists _; isplitr
  swap; · iexact H4
  ipureintro; sl_unfold_run_names
  exact (View.read_writes_full _ _ _ _ _).trans (by rw [View.readAt_full, hf2, readAt_part _ _ _ _ hf1])

section Region

-- what the arrays hold when the launch is entered
variable (V : (c : Dev nD) → (b : Ref sig .tc) → Buf (Elt F) ((c : Thread nD τ).loc b)) (c : Dev nD)

/-- Window `w`'s block of its array at point `t`. -/
def blk3 (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The launch's proof data. -/
def dat3 : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => k3_pay4 (part rowDn (blk3 V c 1 t)) (blk3 V c 2 t) (blk3 V c 0 t)
    | ⟨4, _⟩ => k3_pay1 (k3_pay5 (part rowDn (blk3 V c 1 t)) (blk3 V c 2 t))
  Φ _ := Pipeline.ΦA spec3 c
  q _ := fullShare
  owed _ := 0

theorem dat3_A (w : Fin cfg3.W) : (dat3 V c).A w = V c (Pipeline.arrRef spec3 w) := by dsimp only [dat3]

theorem after3_3 (t : Fin cfg3.N) :
    (dat3 V c).after 3 t = k3_pay4 (part rowDn (blk3 V c 1 t)) (blk3 V c 2 t) (blk3 V c 0 t) := by dsimp only [dat3]
theorem after3_4 (t : Fin cfg3.N) :
    (dat3 V c).after 4 t = k3_pay1 (k3_pay5 (part rowDn (blk3 V c 1 t)) (blk3 V c 2 t)) := by dsimp only [dat3]

/-- Each input's buffer holds its block, fetched at this point or kept from the one before. -/
theorem before3_0 (t : Fin cfg3.N) (d) : (dat3 V c).before 0 t d = blk3 V c 0 t :=
  (dat3 V c).before_in_eq_fetched 0 rfl (fun _ => rfl) (fun _ _ _ => rfl) (fun _ => rfl) t d
theorem before3_1 (t : Fin cfg3.N) (d) : (dat3 V c).before 1 t d = blk3 V c 1 t :=
  (dat3 V c).before_in_eq_fetched 1 rfl (fun _ => rfl) (fun _ _ _ => rfl) (fun _ => rfl) t d
theorem before3_2 (t : Fin cfg3.N) (d) : (dat3 V c).before 2 t d = blk3 V c 2 t :=
  (dat3 V c).before_in_eq_fetched 2 rfl (fun _ => rfl) (fun _ _ _ => rfl) (fun _ => rfl) t d

set_option maxHeartbeats 800000 in
/-- The body at any point of the grid, from the proof data before the point to the proof data after it. -/
theorem sound3 (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d))
      ∗ (∃ d, owns (c : Thread nD τ) (win3_3.stage (cfg3.slots t 3)) fullShare ((dat3 V c).before 3 t d))
      ∗ (∃ d, owns (c : Thread nD τ) (win3_4.stage (cfg3.slots t 4)) fullShare ((dat3 V c).before 4 t d)))
    ⊢ wp frame (wpE (defs₀ (F := F)) Variants.none c none) Set.univ (bodyAt3 t) (fun _ =>
      iprop((dat3 V c).Φ t.castSucc ∗ (dat3 V c).owesAt () t.castSucc
        ∗ owns (c : Thread nD τ) (win3_0.stage (cfg3.slots t 0)) fullShare (blk3 V c 0 t)
        ∗ owns (c : Thread nD τ) (win3_1.stage (cfg3.slots t 1)) fullShare (blk3 V c 1 t)
        ∗ owns (c : Thread nD τ) (win3_2.stage (cfg3.slots t 2)) fullShare (blk3 V c 2 t)
        ∗ owns (c : Thread nD τ) (win3_3.stage (cfg3.slots t 3)) fullShare (k3_pay4 (part rowDn (blk3 V c 1 t)) (blk3 V c 2 t) (blk3 V c 0 t))
        ∗ owns (c : Thread nD τ) (win3_4.stage (cfg3.slots t 4)) fullShare (k3_pay1 (k3_pay5 (part rowDn (blk3 V c 1 t)) (blk3 V c 2 t))))) := by
  unfold bodyAt3
  simp only [before3_0, before3_1, before3_2]
  iintro ⟨HΦ, Ho, ⟨%d0, H0⟩, ⟨%d1, H1⟩, ⟨%d2, H2⟩, ⟨%d3, H3⟩, ⟨%d4, H4⟩⟩
  iapply (run3 c (grid3.coords t) _ _ _ _ _ _ _ _ _ _ (blk3 V c 0 t) (blk3 V c 1 t) (blk3 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation. -/
theorem obligation3 : BodyObligation (dat3 (F := F) V c) (defs₀ (F := F)) Variants.none () Set.univ := fun t => by
  rw [bigSep_W3, bigSep_W3, show defs₀ (F := F) .tc cfg3.body (cfg3.bodyArgs t (cfg3.slots t)) = bodyAt3 t by
    unfold defs₀; rw [Defs.onTc_tc]]
  exact triple_restated (sound3 V c t) rfl .rfl fun _ => .rfl

end Region

end Cert.KernelIdeal.Net

end
-- ==== Proof.Run.lean ====
/- The whole run of the kernel: what every buffer holds between the items of @main, and the run's final state. -/
module

public import proofs.«01_k».proof.Proof.Stats
public import proofs.«01_k».proof.Proof.Embed
public import proofs.«01_k».proof.Proof.Attend
public import proofs.«01_k».proof.Proof.Dists

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of every core's buffers, read at the TensorCore's references. -/
abbrev tc (W : Dev nD → Valuation τ sig (Elt F)) : (c : Dev nD) → (b : Ref sig .tc) → Buf (Elt F) ((c : Thread nD τ).loc b) :=
  fun c b => W c (Proc.devRef .tc b)

variable (m : (ℓ : Loc nD τ sig) → Buf (Elt F) ℓ) (ρ : Dev nD → PrngReg)

/-! ## The contents between the items -/

/-- At the start: the launch memory. -/
abbrev W0 : Dev nD → Valuation τ sig (Elt F) := fun c b => (s₀ m ρ).mem ((c : Dev nD), b)
/-- After each launch its arrays hold what its write-backs leave; after each stretch of host operations, their results. -/
def W1 (c : Dev nD) : Valuation τ sig (Elt F) := Pipeline.withArrays spec0 c (W0 m ρ c) fun w => (dat0 (tc (W0 m ρ)) c).arrAt w cfg0.N
abbrev W2 : Dev nD → Valuation τ sig (Elt F) := fun c => StableHlo.after hostOps1 (W1 m ρ c)
def W3 (c : Dev nD) : Valuation τ sig (Elt F) := Pipeline.withArrays spec1 c (W2 m ρ c) fun w => (dat1 (tc (W2 m ρ)) c).arrAt w cfg1.N
abbrev W4 : Dev nD → Valuation τ sig (Elt F) := fun c => StableHlo.after hostOps2 (W3 m ρ c)
def W5 (c : Dev nD) : Valuation τ sig (Elt F) := Pipeline.withArrays spec2 c (W4 m ρ c) fun w => (dat2 (tc (W4 m ρ)) c).arrAt w cfg2.N
def W6 (c : Dev nD) : Valuation τ sig (Elt F) := Pipeline.withArrays spec3 c (W5 m ρ c) fun w => (dat3 (tc (W5 m ρ)) c).arrAt w cfg3.N
abbrev W7 : Dev nD → Valuation τ sig (Elt F) := fun c => StableHlo.after hostOps4 (W6 m ρ c)

/-- Every pipeline's proof data, each at the contents its launch is entered with. -/
def pdats : (p : Fin 4) → (c : Dev nD) → Dat τ (Elt F) Unit ℕ (UR sig nD τ) ℕ (Pipeline.pin (pcfgs (F := F)) (fun p => (cfgs p).toPCfg_adm) p) c
  | ⟨0, _⟩ => fun c => dat0 (tc (W0 m ρ)) c
  | ⟨1, _⟩ => fun c => dat1 (tc (W2 m ρ)) c
  | ⟨2, _⟩ => fun c => dat2 (tc (W4 m ρ)) c
  | ⟨3, _⟩ => fun c => dat3 (tc (W5 m ρ)) c

/-- What rides along beside the buffers: the generator's register at some state, and nothing owed. -/
abbrev aside (c : Dev nD) : sProp 𝕄 := iprop((∃ r, prngReg c r) ∗ ∃ W, owes (c : Thread nD τ) (0 : CellTallies nD τ sig Unit) W)

/-- The state of a thread between two items: every buffer that outlives the launches at the contents named. -/
abbrev between (W : Dev nD → Valuation τ sig (Elt F)) (c : Dev nD) : sProp 𝕄 :=
  iprop(StableHlo.held (c : Thread nD τ) (Pipeline.ucRefs τ sig) (W c) ∗ aside c)

set_option backward.isDefEq.respectTransparency.types false in
/-- A launch as a segment, from contents `W` to contents `W'`: whichever of the four it is, given what its arrays hold
    before and after, its body's obligation, and how its invariant begins and ends. -/
def launch (p : Fin 4) (hl : Pipeline.LaunchFacts (nD := nD) (τ := τ) cfgs p) (W W' : Dev nD → Valuation τ sig (Elt F))
    (hq : ∀ c w, (pdats m ρ p c).q w = fullShare) (ho : ∀ c t, (pdats m ρ p c).owed t = 0)
    (hr : ∀ c x, x ∈ (pdats m ρ p c).recorded 0)
    (hA : ∀ c w, (pdats m ρ p c).A w = tc W c (Pipeline.arrRef (cfgs p).spec w))
    (hF : ∀ c w, (pdats m ρ p c).arrAt w (cfgs p).N = tc W' c (Pipeline.arrRef (cfgs p).spec w))
    (hrest : ∀ c b, b ∉ Finset.univ.image (Pipeline.arrRef (cfgs p).spec) → tc W' c b = tc W c b)
    (hb : ∀ c, BodyObligation (pdats m ρ p c) (defs₀ (F := F)) Variants.none () Set.univ)
    (hi : ∀ c, (Pipeline.ΦA (cfgs p).spec c : sProp 𝕄) ⊢ (pdats m ρ p c).Φ 0)
    (he : ∀ c, (pdats m ρ p c).Φ (Fin.last _) ⊢ (Pipeline.ΦA (cfgs p).spec c : sProp 𝕄)) :
    Pipeline.RegionSeg (pcfgs (F := F)) (fun p => (cfgs p).toPCfg_adm) (pdats m ρ) () defs₀ Variants.none (fun _ => ∅) (fun _ _ => 0) p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ _ _ p ho
  pre := between W
  post := between W'
  X c := iprop(∃ r, prngReg c r)
  Y c := iprop(∃ r, prngReg c r)
  Z c := Pipeline.unscopedRest (Ix := Unit) (Name := ℕ) (U := UR sig nD τ) (Lvl := ℕ) (cfgs p).spec c (tc W c)
  hentry c := by
    rw [Pipeline.ownSems0_none]
    have hsplit := Pipeline.arrays_of_unscopedBufs (p := p) (pcfgs (F := F)) (fun p => (cfgs p).toPCfg_adm) (pdats m ρ) hl.win hl.arr_whole c
      ((pdats m ρ p c).share_full (hq c)) (tc W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr; · ipureintro; exact fun _ _ => Or.inl (hr c _)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine (he c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) (fun p => (cfgs p).toPCfg_adm) (Ix := Unit) (Name := ℕ) (U := UR sig nD τ) (Lvl := ℕ)
      hl.win hl.arr_whole c (pdats m ρ) ((pdats m ρ p c).share_full (hq c))
      (tc W c) (tc W' c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

/-! ## What each launch leaves -/

theorem W1_arr (c : Dev nD) (w : Fin cfg0.W) : W1 m ρ c (Proc.devRef .tc (Pipeline.arrRef spec0 w)) = (dat0 (tc (W0 m ρ)) c).arrAt w cfg0.N := by
  unfold W1; exact Pipeline.withArrays_arr spec0 launch0.win.arr_inj c _ _ w
theorem W1_off (c : Dev nD) (b : Ref sig .tc) (hb : ∀ w, Pipeline.arrRef spec0 w ≠ b) : W1 m ρ c (Proc.devRef .tc b) = W0 m ρ c (Proc.devRef .tc b) := by
  unfold W1; exact Pipeline.withArrays_of_ne spec0 c _ _ b hb
theorem W3_arr (c : Dev nD) (w : Fin cfg1.W) : W3 m ρ c (Proc.devRef .tc (Pipeline.arrRef spec1 w)) = (dat1 (tc (W2 m ρ)) c).arrAt w cfg1.N := by
  unfold W3; exact Pipeline.withArrays_arr spec1 launch1.win.arr_inj c _ _ w
theorem W3_off (c : Dev nD) (b : Ref sig .tc) (hb : ∀ w, Pipeline.arrRef spec1 w ≠ b) : W3 m ρ c (Proc.devRef .tc b) = W2 m ρ c (Proc.devRef .tc b) := by
  unfold W3; exact Pipeline.withArrays_of_ne spec1 c _ _ b hb
theorem W5_arr (c : Dev nD) (w : Fin cfg2.W) : W5 m ρ c (Proc.devRef .tc (Pipeline.arrRef spec2 w)) = (dat2 (tc (W4 m ρ)) c).arrAt w cfg2.N := by
  unfold W5; exact Pipeline.withArrays_arr spec2 launch2.win.arr_inj c _ _ w
theorem W5_off (c : Dev nD) (b : Ref sig .tc) (hb : ∀ w, Pipeline.arrRef spec2 w ≠ b) : W5 m ρ c (Proc.devRef .tc b) = W4 m ρ c (Proc.devRef .tc b) := by
  unfold W5; exact Pipeline.withArrays_of_ne spec2 c _ _ b hb
theorem W6_arr (c : Dev nD) (w : Fin cfg3.W) : W6 m ρ c (Proc.devRef .tc (Pipeline.arrRef spec3 w)) = (dat3 (tc (W5 m ρ)) c).arrAt w cfg3.N := by
  unfold W6; exact Pipeline.withArrays_arr spec3 launch3.win.arr_inj c _ _ w
theorem W6_off (c : Dev nD) (b : Ref sig .tc) (hb : ∀ w, Pipeline.arrRef spec3 w ≠ b) : W6 m ρ c (Proc.devRef .tc b) = W5 m ρ c (Proc.devRef .tc b) := by
  unfold W6; exact Pipeline.withArrays_of_ne spec3 c _ _ b hb

/-- A buffer that is no output of a launch holds after it what it held before: no write-back reaches an input's array. -/
theorem W1_keep (c : Dev nD) (b : Ref sig .tc) (h : ∀ w : Fin cfg0.W, Pipeline.arrRef spec0 w = b → (cfg0.win w).isOut = false) :
    W1 m ρ c (Proc.devRef .tc b) = W0 m ρ c (Proc.devRef .tc b) := by
  by_cases hw : ∃ w : Fin cfg0.W, Pipeline.arrRef spec0 w = b
  · obtain ⟨w, rfl⟩ := hw
    exact (W1_arr m ρ c w).trans ((Dat.arrAt_in _ w (h w rfl) _).trans (dat0_A _ c w))
  · exact W1_off m ρ c b fun w e => hw ⟨w, e⟩
theorem W3_keep (c : Dev nD) (b : Ref sig .tc) (h : ∀ w : Fin cfg1.W, Pipeline.arrRef spec1 w = b → (cfg1.win w).isOut = false) :
    W3 m ρ c (Proc.devRef .tc b) = W2 m ρ c (Proc.devRef .tc b) := by
  by_cases hw : ∃ w : Fin cfg1.W, Pipeline.arrRef spec1 w = b
  · obtain ⟨w, rfl⟩ := hw
    exact (W3_arr m ρ c w).trans ((Dat.arrAt_in _ w (h w rfl) _).trans (dat1_A _ c w))
  · exact W3_off m ρ c b fun w e => hw ⟨w, e⟩
theorem W5_keep (c : Dev nD) (b : Ref sig .tc) (h : ∀ w : Fin cfg2.W, Pipeline.arrRef spec2 w = b → (cfg2.win w).isOut = false) :
    W5 m ρ c (Proc.devRef .tc b) = W4 m ρ c (Proc.devRef .tc b) := by
  by_cases hw : ∃ w : Fin cfg2.W, Pipeline.arrRef spec2 w = b
  · obtain ⟨w, rfl⟩ := hw
    exact (W5_arr m ρ c w).trans ((Dat.arrAt_in _ w (h w rfl) _).trans (dat2_A _ c w))
  · exact W5_off m ρ c b fun w e => hw ⟨w, e⟩
theorem W6_keep (c : Dev nD) (b : Ref sig .tc) (h : ∀ w : Fin cfg3.W, Pipeline.arrRef spec3 w = b → (cfg3.win w).isOut = false) :
    W6 m ρ c (Proc.devRef .tc b) = W5 m ρ c (Proc.devRef .tc b) := by
  by_cases hw : ∃ w : Fin cfg3.W, Pipeline.arrRef spec3 w = b
  · obtain ⟨w, rfl⟩ := hw
    exact (W6_arr m ρ c w).trans ((Dat.arrAt_in _ w (h w rfl) _).trans (dat3_A _ c w))
  · exact W6_off m ρ c b fun w e => hw ⟨w, e⟩

/-- The references the host operations write, stretch by stretch. -/
abbrev wrote1 : List (Ref sig .tc) := [main_cst, main_v1, main_v2, main_v3, main_v4, main_v5]
abbrev wrote2 : List (Ref sig .tc) := [main_v7, main_v8, main_v9, main_v10, main_v11, main_v12, main_v13, main_v14, main_v15, main_v16]
abbrev wrote4 : List (Ref sig .tc) := [main_v19, main_v20]

/-- A buffer a stretch does not write keeps its contents across it. -/
theorem W2_keep (c : Dev nD) (b : Ref sig .tc) (h : b ∉ wrote1) : W2 m ρ c (Proc.devRef .tc b) = W1 m ρ c (Proc.devRef .tc b) :=
  StableHlo.after_of_writes_sub hostOps1 _ (StableHlo.forall_writes_sub_of_map (W := wrote1) rfl) h
theorem W4_keep (c : Dev nD) (b : Ref sig .tc) (h : b ∉ wrote2) : W4 m ρ c (Proc.devRef .tc b) = W3 m ρ c (Proc.devRef .tc b) :=
  StableHlo.after_of_writes_sub hostOps2 _ (StableHlo.forall_writes_sub_of_map (W := wrote2) rfl) h
theorem W7_keep (c : Dev nD) (b : Ref sig .tc) (h : b ∉ wrote4) : W7 m ρ c (Proc.devRef .tc b) = W6 m ρ c (Proc.devRef .tc b) :=
  StableHlo.after_of_writes_sub hostOps4 _ (StableHlo.forall_writes_sub_of_map (W := wrote4) rfl) h

/-- @main's arguments. -/
abbrev argRefs : List (Ref sig .tc) := [main_arg0, main_arg1, main_arg2, main_arg3, main_arg4, main_arg5, main_arg6, main_arg7, main_arg8,
  main_arg9, main_arg10, main_arg11, main_arg12, main_arg13, main_arg14]

/-- An argument is written by no launch and by no host operation. -/
theorem args_kept : ∀ a ∈ argRefs, (∀ w : Fin cfg0.W, Pipeline.arrRef spec0 w = a → (cfg0.win w).isOut = false)
    ∧ (∀ w : Fin cfg1.W, Pipeline.arrRef spec1 w = a → (cfg1.win w).isOut = false)
    ∧ (∀ w : Fin cfg2.W, Pipeline.arrRef spec2 w = a → (cfg2.win w).isOut = false)
    ∧ (∀ w : Fin cfg3.W, Pipeline.arrRef spec3 w = a → (cfg3.win w).isOut = false)
    ∧ a ∉ wrote1 ∧ a ∉ wrote2 ∧ a ∉ wrote4 := ListAll.forall_mem_of_all_decide (by decide +kernel)

/-- Every argument holds at each point between items what it held at the start. -/
theorem W2_arg (c : Dev nD) (a : Ref sig .tc) (ha : a ∈ argRefs) : W2 m ρ c (Proc.devRef .tc a) = m ((c : Thread nD τ).loc a) :=
  (W2_keep m ρ c a (args_kept a ha).2.2.2.2.1).trans (W1_keep m ρ c a (args_kept a ha).1)
theorem W4_arg (c : Dev nD) (a : Ref sig .tc) (ha : a ∈ argRefs) : W4 m ρ c (Proc.devRef .tc a) = m ((c : Thread nD τ).loc a) :=
  (W4_keep m ρ c a (args_kept a ha).2.2.2.2.2.1).trans ((W3_keep m ρ c a (args_kept a ha).2.1).trans (W2_arg m ρ c a ha))
theorem W7_arg (c : Dev nD) (a : Ref sig .tc) (ha : a ∈ argRefs) : W7 m ρ c (Proc.devRef .tc a) = m ((c : Thread nD τ).loc a) :=
  (W7_keep m ρ c a (args_kept a ha).2.2.2.2.2.2).trans ((W6_keep m ρ c a (args_kept a ha).2.2.2.1).trans
    ((W5_keep m ρ c a (args_kept a ha).2.2.1).trans (W4_arg m ρ c a ha)))

/-! ## The segments and the run -/

set_option backward.isDefEq.respectTransparency.types false in
def seg0 := launch m ρ 0 launch0 (W0 m ρ) (W1 m ρ) (fun _ _ => rfl) (fun _ _ => rfl) (fun _ _ => trivial) (fun c w => dat0_A _ c w) (fun c w => (W1_arr m ρ c w).symm)
  (fun c b hb => W1_off m ρ c b fun w e => hb (Finset.mem_image.mpr ⟨w, Finset.mem_univ _, e⟩)) (fun c => obligation0 _ c)
  (fun c => .rfl) (fun c => .rfl)
set_option backward.isDefEq.respectTransparency.types false in
def seg1 := launch m ρ 1 launch1 (W2 m ρ) (W3 m ρ) (fun _ _ => rfl) (fun _ _ => rfl) (fun _ _ => trivial) (fun c w => dat1_A _ c w) (fun c w => (W3_arr m ρ c w).symm)
  (fun c b hb => W3_off m ρ c b fun w e => hb (Finset.mem_image.mpr ⟨w, Finset.mem_univ _, e⟩)) (fun c => obligation1 _ c)
  (fun c => .rfl) (fun c => Φ1_end _ c)
set_option backward.isDefEq.respectTransparency.types false in
def seg2 := launch m ρ 2 launch2 (W4 m ρ) (W5 m ρ) (fun _ _ => rfl) (fun _ _ => rfl) (fun _ _ => trivial) (fun c w => dat2_A _ c w) (fun c w => (W5_arr m ρ c w).symm)
  (fun c b hb => W5_off m ρ c b fun w e => hb (Finset.mem_image.mpr ⟨w, Finset.mem_univ _, e⟩)) (fun c => obligation2 _ c)
  (fun c => .rfl) (fun c => Φ2_end _ c)
set_option backward.isDefEq.respectTransparency.types false in
def seg3 := launch m ρ 3 launch3 (W5 m ρ) (W6 m ρ) (fun _ _ => rfl) (fun _ _ => rfl) (fun _ _ => trivial) (fun c w => dat3_A _ c w) (fun c w => (W6_arr m ρ c w).symm)
  (fun c b hb => W6_off m ρ c b fun w e => hb (Finset.mem_image.mpr ⟨w, Finset.mem_univ _, e⟩)) (fun c => obligation3 _ c)
  (fun c => .rfl) (fun c => .rfl)

/-- A stretch of host operations as a segment, from contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none (fun _ => (∅ : Finset Unit)) (fun _ _ => (0 : ℕ)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W aside

theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor

/-- @main's items in order. -/
abbrev items : List (Pipeline.Seg (pcfgs (F := F)) (fun p => (cfgs p).toPCfg_adm) (pdats m ρ) () defs₀ Variants.none (fun _ => ∅) (fun _ _ => 0)) :=
  [.region (seg0 m ρ), .host (stretch hostOps1 hostOps1_sub fresh1 (W1 m ρ)), .region (seg1 m ρ),
   .host (stretch hostOps2 hostOps2_sub fresh2 (W3 m ρ)), .region (seg2 m ρ), .region (seg3 m ρ),
   .host (stretch hostOps4 hostOps4_sub fresh4 (W6 m ρ))]

theorem main_items (c : Dev nD) : main (F := F) c = Pipeline.Seg.run (items m ρ) :=
  main_segs _ _ _ _ _ _ _ _ _ _ _ _ _ rfl rfl rfl c

/-- A buffer that outlives the launches is among those the state between items names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem sems_scoped : ∀ sm : SemLoc sig, sm.isScoped .tc = true := by decide

set_option backward.isDefEq.respectTransparency.types false in
/-- Every weakly fair execution of @main ends, without a fault, with every buffer that outlives the launches at `W7` and
    every semaphore at zero. -/
theorem run : θ_run defs (onTc (τ := τ) (main (F := F))) ⟨m, fun _ => 0, ρ⟩ (fun r =>
      (∀ c : Dev nD, ∀ b ∈ Pipeline.ucRefs τ sig, r.2.mem (c, b) = W7 m ρ c b) ∧ r.2.sem = fun _ => 0) :=
  Pipeline.θ_run_regions_kit_sems (pcfgs (F := F)) (fun p => (cfgs p).toPCfg_adm) (pdats m ρ) () cellOf_inj emb₁ defs₀ Variants.none
    (fun _ => ∅) (fun _ _ => 0) m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m ρ))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach _ _ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (sems_scoped g.2))⟩)

/-- The frame: the arguments end as they began and every semaphore at zero. -/
theorem quiet : θ_run defs (onTc (τ := τ) (main (F := F))) ⟨m, fun _ => 0, ρ⟩ (fun r =>
      (∀ c : Dev nD, ∀ a ∈ argRefs, r.2.mem ((c.tc : Thread nD τ).loc a) = m ((c.tc : Thread nD τ).loc a)) ∧ r.2.sem = fun _ => 0) :=
  (θ_run defs _ _).mono (fun r h => ⟨fun c a ha => (h.1 c _ (mem_uc a ((by decide : ∀ a ∈ argRefs, ¬ (Proc.devRef .tc a : DevRef τ sig).isScoped) a ha))).trans
    (W7_arg m ρ c a ha), h.2⟩) (run m ρ)

end Cert.KernelIdeal.Net

end
-- ==== Proof.Frames.lean ====
/- The frames of the three programs: each runs, its arguments end unchanged and every semaphore at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Machine.Run
public import proofs.«01_k».proof.Proof.Run
public import Idealize.ShloMosaic.Lib.Quiescent

@[expose] public section

noncomputable section

namespace Cert.Proof

open Idealize.ShloMosaic Idealize.ShloMosaic.TcCoe Idealize.SL.Sem

/-- The frame of the kernel. -/
theorem frame_kernel : quiescent_Kernel (hKernel := Kernel.Gen.facts) := fun m g _ =>
  (θ_run Kernel.defs _ _).mono (fun r h => ⟨fun c =>
    ⟨h.1 c _ (by decide), h.1 c _ (by decide), h.1 c _ (by decide), h.1 c _ (by decide), h.1 c _ (by decide),
     h.1 c _ (by decide), h.1 c _ (by decide), h.1 c _ (by decide), h.1 c _ (by decide), h.1 c _ (by decide),
     h.1 c _ (by decide), h.1 c _ (by decide), h.1 c _ (by decide), h.1 c _ (by decide), h.1 c _ (by decide)⟩, h.2⟩) (Kernel.Net.quiet m g)

/-- The frame of the idealized kernel. -/
theorem frame_ideal : quiescent_KernelIdeal (hKernelIdeal := KernelIdeal.Gen.facts) := fun m g _ =>
  (θ_run KernelIdeal.defs _ _).mono (fun r h => ⟨fun c =>
    ⟨h.1 c _ (by decide), h.1 c _ (by decide), h.1 c _ (by decide), h.1 c _ (by decide), h.1 c _ (by decide),
     h.1 c _ (by decide), h.1 c _ (by decide), h.1 c _ (by decide), h.1 c _ (by decide), h.1 c _ (by decide),
     h.1 c _ (by decide), h.1 c _ (by decide), h.1 c _ (by decide), h.1 c _ (by decide), h.1 c _ (by decide)⟩, h.2⟩) (KernelIdeal.Net.quiet m g)

/-- The frame of the reference. -/
theorem frame_reference : quiescent_ReferenceIdeal (hReferenceIdeal := ReferenceIdeal.Gen.facts) := fun m g _ =>
  (θ_run ReferenceIdeal.defs _ _).mono (fun r h => ⟨fun c => (h c).2.2, sem_eq_zero_of_no_sems (by decide) r.2⟩) (ReferenceIdeal.Value.run m g)

end Cert.Proof

end
-- ==== Proof.Value.Law.lean ====
/-
  The exact operations on extended reals that are reals: sums, quotients, exponentials, reciprocal roots and
  comparisons of real numbers are the real operations; and the literals of the two programs that are read as numbers.
-/
module

public import Idealize.ShloMosaic.PureOps.Ideal.Laws
public import Idealize.ShloMosaic.Lib.IdealHost
public import Idealize.ShloMosaic.Lib.MatmulPlain
public import Idealize.ShloMosaic.Lib.ValueIdx

@[expose] public section

noncomputable section

namespace Cert.Law

open Idealize.ShloMosaic
open scoped BigOperators

/-- A finite sum of reals, taken among the extended reals, is the real sum. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum whose terms are known reals is the real sum. -/
theorem sum_eq_real {ι : Type} [Fintype ι] (u : ι → EReal) (f : ι → ℝ) (h : ∀ i, u i = ((f i : ℝ) : EReal)) :
    ∑ i, u i = ((∑ i, f i : ℝ) : EReal) := by
  rw [← sum_real]; exact Finset.sum_congr rfl fun i _ => h i

/-- The quotient of two reals by a nonzero one. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The exponential of a real. -/
theorem exp_real (x : ℝ) : Ideal.exp (x : EReal) = ((Real.exp x : ℝ) : EReal) := rfl

/-- The exponential is zero at minus infinity. -/
theorem exp_bot : Ideal.exp ⊥ = ((0 : ℝ) : EReal) := rfl

/-- The reciprocal square root of a positive real. -/
theorem rsqrt_real (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The hyperbolic tangent of any extended real is a real. -/
theorem tanh_real (z : EReal) : Ideal.tanh z = (((Ideal.tanh z).toReal : ℝ) : EReal) := by
  have e : ∃ r : ℝ, Ideal.tanh z = ((r : ℝ) : EReal) := by
    induction z using EReal.rec with
    | bot => exact ⟨-1, rfl⟩
    | top => exact ⟨1, rfl⟩
    | coe r => exact ⟨Real.tanh r, rfl⟩
  obtain ⟨r, hr⟩ := e
  rw [hr, EReal.toReal_coe]

/-- An extended real whose magnitude is below infinity is a real. -/
theorem real_of_abs (x : EReal) (h : max x (-x) < ⊤) : x = ((x.toReal : ℝ) : EReal) := by
  refine (EReal.coe_toReal ?_ ?_).symm
  · rintro rfl; simp at h
  · rintro rfl; simp at h

/-- The greater of two reals. -/
theorem max_real (x y : ℝ) : max (x : EReal) (y : EReal) = ((max x y : ℝ) : EReal) :=
  (EReal.coe_strictMono.monotone.map_max).symm

/-- The running maximum of finitely many extended reals below infinity, started from one below infinity, is below
    infinity. -/
theorem fold_max_lt_top {ι : Type} (s : Finset ι) (f : ι → EReal) (b : EReal) (hb : b < ⊤) (h : ∀ i, f i < ⊤) :
    Finset.fold max b f s < ⊤ := by
  classical
  induction s using Finset.induction_on with
  | empty => simpa using hb
  | insert a s ha ih => rw [Finset.fold_insert ha]; exact max_lt (h a) ih

/-- A term of a running maximum is at most the maximum. -/
theorem le_fold_max {ι : Type} (s : Finset ι) (f : ι → EReal) (b : EReal) (i : ι) (hi : i ∈ s) :
    f i ≤ Finset.fold max b f s := by
  classical
  induction s using Finset.induction_on with
  | empty => simp at hi
  | insert a s ha ih =>
    rw [Finset.fold_insert ha]
    rcases Finset.mem_insert.mp hi with h | h
    · exact h ▸ le_max_left _ _
    · exact (ih h).trans (le_max_right _ _)

/-- A running maximum that stays below infinity and has a real term is a real. -/
theorem fold_max_real {ι : Type} (s : Finset ι) (f : ι → EReal) (b : EReal) (hb : b < ⊤) (h : ∀ i, f i < ⊤) (i : ι)
    (hi : i ∈ s) (r : ℝ) (hr : ((r : ℝ) : EReal) ≤ f i) :
    ∃ M : ℝ, Finset.fold max b f s = ((M : ℝ) : EReal) := by
  refine ⟨_, (EReal.coe_toReal (fold_max_lt_top s f b hb h).ne ?_).symm⟩
  exact ((EReal.bot_lt_coe r).trans_le (hr.trans (le_fold_max s f b i hi))).ne'

/-- A running maximum of reals started from any value below infinity is a real, when it has a term. -/
theorem fold_max_reals {ι : Type} (s : Finset ι) (f : ι → EReal) (b : EReal) (hb : b < ⊤) (g : ι → ℝ)
    (h : ∀ i, f i = ((g i : ℝ) : EReal)) (i : ι) (hi : i ∈ s) :
    ∃ M : ℝ, Finset.fold max b f s = ((M : ℝ) : EReal) :=
  fold_max_real s f b hb (fun i => h i ▸ EReal.coe_lt_top _) i hi (g i) (h i).ge

/-- A choice by a bit that says whether `P` holds. -/
theorem select_iff {α : Type} (b : BitVec 1) (P : Prop) [Decidable P] (h : b = 1#1 ↔ P) (x y : α) :
    Scalar.select b x y = if P then x else y := by
  by_cases hp : P
  · rw [if_pos hp, h.mpr hp]; exact ValueIdx.select_one x y
  · rw [if_neg hp, ValueIdx.eq_zero_of_ne_one fun hb => hp (h.mp hb)]; exact ValueIdx.select_zero x y

/-- A normalization of reals. -/
theorem norm_real (h m r g b : ℝ) : ((h : EReal) - (m : EReal)) * (r : EReal) * (g : EReal) + (b : EReal)
    = (((h - m) * r * g + b : ℝ) : EReal) := by
  rw [EReal.coe_add, EReal.coe_mul, EReal.coe_mul, EReal.coe_sub]

/-- The bit of a decided proposition is one just when it holds. -/
theorem ofBool_iff (P : Prop) [Decidable P] : BitVec.ofBool (decide P) = 1#1 ↔ P := by
  by_cases h : P <;> simp [h]

/-- The comparisons of reals the programs make. -/
theorem oge_real (x y : ℝ) : Ideal.cmp .oge (x : EReal) (y : EReal) = 1#1 ↔ y ≤ x := by
  simp only [Ideal.cmp, ofBool_iff, EReal.coe_le_coe_iff, EReal.coe_lt_coe_iff, EReal.coe_eq_coe_iff]
theorem ogt_real (x y : ℝ) : Ideal.cmp .ogt (x : EReal) (y : EReal) = 1#1 ↔ y < x := by
  simp only [Ideal.cmp, ofBool_iff, EReal.coe_le_coe_iff, EReal.coe_lt_coe_iff, EReal.coe_eq_coe_iff]
theorem oeq_real (x y : ℝ) : Ideal.cmp .oeq (x : EReal) (y : EReal) = 1#1 ↔ x = y := by
  simp only [Ideal.cmp, ofBool_iff, EReal.coe_le_coe_iff, EReal.coe_lt_coe_iff, EReal.coe_eq_coe_iff]

/-! ## Literals -/

/-- The row count 262144. -/
theorem lit_rows : (FloatOps.ofBits .f32 0x48800000#32 : Ideal .f32) = ((262144 : ℝ) : EReal) := by
  show Ideal.ofBits .f32 _ = _
  simp [Ideal.ofBits, Ideal.ieee, -EReal.coe_mul]; norm_num

/-- The small constant added to the variance, as a real. -/
def eps : ℝ := 10995116 * (2 : ℝ) ^ (-40 : ℤ)

theorem eps_pos : 0 < eps := by unfold eps; positivity

theorem lit_eps : (FloatOps.ofBits .f32 0x3727C5AC#32 : Ideal .f32) = ((eps : ℝ) : EReal) := by
  show Ideal.ofBits .f32 _ = _
  unfold eps
  simp [Ideal.ofBits, Ideal.ieee, -EReal.coe_mul]

/-- The slope of the leaky unit, as a real. -/
def slope : ℝ := 10737418 * (2 : ℝ) ^ (-30 : ℤ)

theorem lit_slope : (FloatOps.ofBits .f32 0x3C23D70A#32 : Ideal .f32) = ((slope : ℝ) : EReal) := by
  show Ideal.ofBits .f32 _ = _
  unfold slope
  simp [Ideal.ofBits, Ideal.ieee, -EReal.coe_mul]

theorem lit_two : (FloatOps.ofBits .f32 0x40000000#32 : Ideal .f32) = ((2 : ℝ) : EReal) := by
  show Ideal.ofBits .f32 _ = _
  simp [Ideal.ofBits, Ideal.ieee, -EReal.coe_mul]; norm_num

theorem lit_pairs : (FloatOps.ofBits .f32 0x43F80000#32 : Ideal .f32) = ((496 : ℝ) : EReal) := by
  show Ideal.ofBits .f32 _ = _
  simp [Ideal.ofBits, Ideal.ieee, -EReal.coe_mul]; norm_num

theorem lit_zero : (FloatOps.ofBits .f32 0x00000000#32 : Ideal .f32) = ((0 : ℝ) : EReal) := by
  show Ideal.ofBits .f32 _ = _
  simp [Ideal.ofBits, Ideal.ieee]

/-- The large negative stand-in the running maximum starts from, as a real. -/
def low : ℝ := -(13234890 : ℝ) * (2 : ℝ) ^ (76 : ℤ)

theorem lit_low : (FloatOps.ofBits .f32 0xF149F2CA#32 : Ideal .f32) = ((low : ℝ) : EReal) := by
  show Ideal.ofBits .f32 _ = _
  unfold low
  simp [Ideal.ofBits, Ideal.ieee, -EReal.coe_mul]

theorem lit_bot : (FloatOps.ofBits .f32 0xFF800000#32 : Ideal .f32) = (⊥ : EReal) := by
  show Ideal.ofBits .f32 _ = _
  simp [Ideal.ofBits, Ideal.ieee]

theorem lit_top : (FloatOps.ofBits .f32 0x7F800000#32 : Ideal .f32) = (⊤ : EReal) := by
  show Ideal.ofBits .f32 _ = _
  simp [Ideal.ofBits, Ideal.ieee]

end Cert.Law
-- ==== Proof.Value.Spec.lean ====
/-
  The prototype network over the reals: what both programs compute. A hidden layer without its bias, its column
  means and variances, the normalized leaky activation, the embedding, the attention score of every training row for
  every class, the softmax-weighted prototypes, and the two results.
-/
module

public import proofs.«01_k».proof.Proof.Value.Law

@[expose] public section

noncomputable section

namespace Cert.Spec

open Idealize.ShloMosaic Cert.Law
open scoped BigOperators

/-- The data of a run: the arguments as functions of plain indices, real but for the attention layer's first weights
    and biases, which may be any extended reals. -/
structure Net where
  x : Fin 262144 → Fin 256 → ℝ
  w0 : Fin 512 → Fin 256 → ℝ
  b0 : Fin 512 → ℝ
  gam : Fin 512 → ℝ
  bet : Fin 512 → ℝ
  w1 : Fin 128 → Fin 512 → ℝ
  b1 : Fin 128 → ℝ
  aw : Fin 32 → Fin 128 → Fin 128 → EReal
  ab : Fin 32 → Fin 128 → EReal
  v : Fin 32 → Fin 128 → ℝ
  vb : Fin 32 → ℝ
  mem : Fin 131072 → Fin 32 → Prop

variable (A : Net)

/-- The hidden layer without its bias. -/
def hid (i : Fin 262144) (k : Fin 512) : ℝ := ∑ j, A.x i j * A.w0 k j

/-- Column sums of the hidden layer and of its squares. -/
def hs (k : Fin 512) : ℝ := ∑ i, hid A i k
def hss (k : Fin 512) : ℝ := ∑ i, hid A i k * hid A i k

/-- Column means and variances. -/
def mu (k : Fin 512) : ℝ := hs A k / 262144
def vr (k : Fin 512) : ℝ := hss A k / 262144 - mu A k * mu A k

/-- The factor and the shift of the normalization. -/
def scl (k : Fin 512) : ℝ := A.gam k * (Real.sqrt (vr A k + eps))⁻¹
def sft (k : Fin 512) : ℝ := A.bet k - mu A k * scl A k

/-- The leaky unit. -/
def leaky (y : ℝ) : ℝ := if 0 ≤ y then y else slope * y

/-- The activation. -/
def act (i : Fin 262144) (k : Fin 512) : ℝ := leaky (hid A i k * scl A k + sft A k)

/-- The embedding. -/
def emb (i : Fin 262144) (d : Fin 128) : ℝ := (∑ k, act A i k * A.w1 d k) + A.b1 d

/-- A training row is a row. -/
def row (r : Fin 131072) : Fin 262144 := ⟨r.val, r.isLt.trans (by norm_num)⟩

/-- The attention layer's hidden value of training row `r` for class `c`. -/
def unit (r : Fin 131072) (c : Fin 32) (d : Fin 128) : ℝ :=
  (Ideal.tanh ((∑ k, ((emb A (row r) k : ℝ) : EReal) * A.aw c d k) + A.ab c d)).toReal

/-- The attention score without its bias. -/
def score (r : Fin 131072) (c : Fin 32) : ℝ := ∑ d, unit A r c d * A.v c d

open Classical in
/-- The weight of a training row in a class's prototype, before dividing: the exponential of its score if the row is of
    the class. -/
def wt (r : Fin 131072) (c : Fin 32) : ℝ := if A.mem r c then Real.exp (score A r c) else 0

def den (c : Fin 32) : ℝ := ∑ r, wt A r c
def num (d : Fin 128) (c : Fin 32) : ℝ := ∑ r, emb A (row r) d * wt A r c

/-- The prototypes. -/
def prt (d : Fin 128) (c : Fin 32) : ℝ := num A d c / den A c

/-- Squared length of a prototype. -/
def len (c : Fin 32) : ℝ := ∑ d, prt A d c * prt A d c

/-- The first result: minus the squared distance of a row's embedding to a prototype. -/
def far (i : Fin 262144) (c : Fin 32) : ℝ :=
  2 * (∑ d, emb A i d * prt A d c) - (∑ d, emb A i d * emb A i d) - len A c

/-- The squared distance of two prototypes. -/
def gap (c c' : Fin 32) : ℝ := len A c + len A c' - 2 * ∑ d, prt A d c * prt A d c'

/-- The second result: the sum of the prototypes' squared distances over the number of pairs. -/
def spread : ℝ := (∑ c, ∑ c', gap A c c') / 496

/-! ## The variance -/

/-- The mean of squared deviations is the mean square less the squared mean. -/
theorem dev_sum (k : Fin 512) :
    (∑ i, (hid A i k - mu A k) * (hid A i k - mu A k)) / 262144 = vr A k := by
  have e : ∀ i, (hid A i k - mu A k) * (hid A i k - mu A k)
      = hid A i k * hid A i k - 2 * mu A k * hid A i k + mu A k * mu A k := fun i => by ring
  have hm : mu A k * 262144 = hs A k := by unfold mu; field_simp
  simp_rw [e]
  rw [Finset.sum_add_distrib, Finset.sum_sub_distrib, ← Finset.mul_sum, Finset.sum_const]
  show (hss A k - 2 * mu A k * hs A k + Fintype.card (Fin 262144) • (mu A k * mu A k)) / 262144 = vr A k
  rw [Fintype.card_fin, nsmul_eq_mul, ← hm]
  unfold vr
  push_cast
  field_simp
  ring

/-- The variance is not negative. -/
theorem vr_nonneg (k : Fin 512) : 0 ≤ vr A k := by
  rw [← dev_sum]
  exact div_nonneg (Finset.sum_nonneg fun i _ => mul_self_nonneg _) (by norm_num)

theorem vr_eps_pos (k : Fin 512) : 0 < vr A k + eps := add_pos_of_nonneg_of_pos (vr_nonneg A k) eps_pos

/-- The normalized value in the order the textbook writes it. -/
theorem normed (i : Fin 262144) (k : Fin 512) :
    (hid A i k - mu A k) * (Real.sqrt (vr A k + eps))⁻¹ * A.gam k + A.bet k = hid A i k * scl A k + sft A k := by
  unfold sft scl; ring

/-- A class with a training row has a positive denominator. -/
theorem den_pos (c : Fin 32) (h : ∃ r, A.mem r c) : 0 < den A c := by
  classical
  obtain ⟨r, hr⟩ := h
  refine Finset.sum_pos' (fun i _ => ?_) ⟨r, Finset.mem_univ _, ?_⟩
  · unfold wt; split
    · exact (Real.exp_pos _).le
    · exact le_rfl
  · unfold wt; rw [if_pos hr]; exact Real.exp_pos _

/-- The softmax of the scores moved by any amount weighs the rows to the same prototype. -/
theorem softmax_shift (c : Fin 32) (d : Fin 128) (t : ℝ) :
    ∑ r, wt A r c * Real.exp t / (∑ r, wt A r c * Real.exp t) * emb A (row r) d = prt A d c := by
  rw [← Finset.sum_mul]
  have ht : Real.exp t ≠ 0 := (Real.exp_pos t).ne'
  unfold prt num den
  rw [Finset.sum_div]
  refine Finset.sum_congr rfl fun r _ => ?_
  rw [mul_div_mul_right _ _ ht]; ring

end Cert.Spec
-- ==== Proof.Value.Reads.lean ====
/-
  The argument arrays of a run that the precondition allows, read as the real data of the network.
-/
module

public import proofs.«01_k».proof.Proof.Value.Spec
public import Idealize.ShloMosaic.Lib.ValueIdxCore

@[expose] public section

noncomputable section

namespace Cert.Spec

open Idealize.ShloMosaic Idealize.ShloMosaic.ValueIdx

/-- The argument arrays hold the data `A`: the real arguments element by element, the attention layer's first weights
    and biases as they are, the class of a training row by its label, the training rows in order, and a training row
    in every class. -/
structure Reads (A : Net)
    (x0 : (⟨2, ![262144, 256]⟩ : Shape).Idx → EReal) (x1 : (⟨2, ![262144, 1]⟩ : Shape).Idx → BitVec 32)
    (x2 : (⟨1, ![131072]⟩ : Shape).Idx → BitVec 32) (x5 : (⟨2, ![512, 256]⟩ : Shape).Idx → EReal)
    (x6 x7 x8 : (⟨1, ![512]⟩ : Shape).Idx → EReal) (x9 : (⟨2, ![128, 512]⟩ : Shape).Idx → EReal)
    (x10 : (⟨1, ![128]⟩ : Shape).Idx → EReal) (x11 : (⟨3, ![32, 128, 128]⟩ : Shape).Idx → EReal)
    (x12 x13 : (⟨2, ![32, 128]⟩ : Shape).Idx → EReal) (x14 : (⟨1, ![32]⟩ : Shape).Idx → EReal) : Prop where
  x : ∀ i, x0 i = ((A.x (i 0) (i 1) : ℝ) : EReal)
  w0 : ∀ i, x5 i = ((A.w0 (i 0) (i 1) : ℝ) : EReal)
  b0 : ∀ i, x6 i = ((A.b0 (i 0) : ℝ) : EReal)
  gam : ∀ i, x7 i = ((A.gam (i 0) : ℝ) : EReal)
  bet : ∀ i, x8 i = ((A.bet (i 0) : ℝ) : EReal)
  w1 : ∀ i, x9 i = ((A.w1 (i 0) (i 1) : ℝ) : EReal)
  b1 : ∀ i, x10 i = ((A.b1 (i 0) : ℝ) : EReal)
  aw : ∀ i, x11 i = A.aw (i 0) (i 1) (i 2)
  ab : ∀ i, x12 i = A.ab (i 0) (i 1)
  v : ∀ i, x13 i = ((A.v (i 0) (i 1) : ℝ) : EReal)
  vb : ∀ i, x14 i = ((A.vb (i 0) : ℝ) : EReal)
  mem : ∀ r c, A.mem r c ↔ x1 (ix2 (row r) (0 : Fin 1)) = BitVec.ofNat 32 c.val
  idx : ∀ i, x2 i = BitVec.ofNat 32 (i 0).val
  full : ∀ c, ∃ r, A.mem r c

end Cert.Spec
-- ==== Proof.Ref.lean ====
/-
  The reference read as the real network: its embedding, its prototypes and its two results.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Reads
public import Idealize.ShloMosaic.Lib.Affine

@[expose] public section

noncomputable section

namespace Cert.Proof.Ref

open Idealize.ShloMosaic Idealize.ShloMosaic.ValueIdx
open Cert.ReferenceIdeal Cert.ReferenceIdeal.Gen Cert.ReferenceIdeal.Read Cert.Law Cert.Spec
open scoped BigOperators

variable {A : Net}
variable {x0 : (⟨2, ![262144, 256]⟩ : Shape).Idx → EReal} {x1 : (⟨2, ![262144, 1]⟩ : Shape).Idx → BitVec 32}
  {x2 : (⟨1, ![131072]⟩ : Shape).Idx → BitVec 32} {x5 : (⟨2, ![512, 256]⟩ : Shape).Idx → EReal}
  {x6 x7 x8 : (⟨1, ![512]⟩ : Shape).Idx → EReal} {x9 : (⟨2, ![128, 512]⟩ : Shape).Idx → EReal}
  {x10 : (⟨1, ![128]⟩ : Shape).Idx → EReal} {x11 : (⟨3, ![32, 128, 128]⟩ : Shape).Idx → EReal}
  {x12 x13 : (⟨2, ![32, 128]⟩ : Shape).Idx → EReal} {x14 : (⟨1, ![32]⟩ : Shape).Idx → EReal}

/-- The hidden layer, with its bias. -/
theorem hidden (R : Reads A x0 x1 x2 x5 x6 x7 x8 x9 x10 x11 x12 x13 x14) (i : S262144x512.Idx) :
    val_main_v4 (F := Ideal) x0 x5 x6 i = ((hid A (i 0) (i 1) + A.b0 (i 1) : ℝ) : EReal) := by
  rw [val_main_v4_apply, val_main_v1_apply, val_main_v3_apply, val_main_v2_apply, R.b0, EReal.coe_add]
  refine congrArg (· + _) (sum_eq_real _ _ fun k => ?_)
  rw [val_main_v0_apply, R.x, R.w0, ← EReal.coe_mul]; rfl

/-- A column sum of the hidden layer with its bias, over the row count. -/
theorem mean_of (k : Fin 512) :
    Ideal.div (((0 : ℝ) : EReal) + ((∑ r : Fin 262144, (hid A r k + A.b0 k) : ℝ) : EReal)) ((262144 : ℝ) : EReal)
      = ((mu A k + A.b0 k : ℝ) : EReal) := by
  rw [← EReal.coe_add, div_real _ _ (by norm_num), zero_add, Finset.sum_add_distrib, Finset.sum_const, Finset.card_univ,
    Fintype.card_fin, nsmul_eq_mul]
  refine congrArg _ ?_
  show (hs A k + _) / _ = hs A k / 262144 + A.b0 k
  push_cast
  rw [add_div, mul_div_cancel_left₀ _ (by norm_num)]

/-- The column mean of the hidden layer. -/
theorem mean (R : Reads A x0 x1 x2 x5 x6 x7 x8 x9 x10 x11 x12 x13 x14) (i : S512.Idx) :
    val_main_v7 (F := Ideal) x0 x5 x6 i = ((mu A (i 0) + A.b0 (i 0) : ℝ) : EReal) := by
  rw [val_main_v7_apply, val_main_v5_apply, val_main_v6_apply, val_main_cst_0_apply, val_main_cst_apply, lit_rows, lit_zero,
    sum_eq_real _ _ (fun k => hidden R (idx_main_v5 i k))]
  exact mean_of (i 0)

/-- The mean inside the variance. -/
theorem mean_inner (R : Reads A x0 x1 x2 x5 x6 x7 x8 x9 x10 x11 x12 x13 x14) (i : S1x512.Idx) :
    val_main_call0_v3 (F := Ideal) x0 x5 x6 i = ((mu A (i 1) + A.b0 (i 1) : ℝ) : EReal) := by
  rw [val_main_call0_v3_apply, val_main_call0_v1_apply, val_main_call0_v0_apply, val_main_call0_v2_apply,
    val_main_call0_cst_0_apply, val_main_call0_cst_apply, lit_rows, lit_zero,
    sum_eq_real _ _ (fun k => hidden R (idx_main_call0_v0 (idx_main_call0_v1 i) k))]
  exact mean_of (i 1)

/-- The column variance of the hidden layer. -/
theorem variance (R : Reads A x0 x1 x2 x5 x6 x7 x8 x9 x10 x11 x12 x13 x14) (i : S512.Idx) :
    val_main_v8 (F := Ideal) x0 x5 x6 i = ((vr A (i 0) : ℝ) : EReal) := by
  have hn : val_main_call0_v8 (F := Ideal) ix0 = ((262144 : ℝ) : EReal) := by
    rw [val_main_call0_v8_apply, val_main_call0_cst_1_apply, lit_rows, val_main_call0_v7_apply, val_main_c_apply]
    show ((262144 : ℝ) : EReal) - ((((0#32).toInt : ℤ) : ℝ) : EReal) = _
    simp
  have hb : val_main_call0_v12 (F := Ideal) ix0 = 1#1 := by
    rw [val_main_call0_v12_apply, hn, val_main_call0_cst_3_apply, lit_zero]
    exact (ogt_real _ _).mpr (by norm_num)
  have hsq : ∀ j, val_main_call0_v6 (F := Ideal) x0 x5 x6 j
      = (((hid A (j 0) (j 1) - mu A (j 1)) * (hid A (j 0) (j 1) - mu A (j 1)) : ℝ) : EReal) := fun j => by
    have hd : val_main_call0_v5 (F := Ideal) x0 x5 x6 j = ((hid A (j 0) (j 1) - mu A (j 1) : ℝ) : EReal) := by
      rw [val_main_call0_v5_apply, hidden R, val_main_call0_v4_apply, mean_inner R]
      refine (EReal.coe_sub _ _).symm.trans (congrArg _ ?_)
      show hid A (j 0) (j 1) + A.b0 (j 1) - (mu A (j 1) + A.b0 (j 1)) = _
      ring
    rw [val_main_call0_v6_apply, hd, EReal.coe_mul]; rfl
  have hv : val_main_call0_v11 (F := Ideal) x0 x5 x6 i = ((vr A (i 0) : ℝ) : EReal) := by
    rw [val_main_call0_v11_apply, val_main_call0_v9_apply, val_main_call0_v10_apply, val_main_call0_cst_2_apply, lit_zero,
      sum_eq_real _ _ (fun k => hsq (idx_main_call0_v9 i k)), ← EReal.coe_add,
      show val_main_call0_v8 (F := Ideal) (idx_main_call0_v10 i) = _ from
        (congrArg _ (funext fun a => a.elim0)).trans hn]
    refine (div_real _ _ (by norm_num)).trans (congrArg _ ?_)
    rw [zero_add]
    exact dev_sum A (i 0)
  have hc : broadcastInDim S512 ![] bcast_S_S512 (val_main_call0_v12 (F := Ideal)) i = 1#1 :=
    (broadcastInDim_scalar_apply bcast_S_S512 _ i).trans hb
  unfold val_main_v8
  rw [select_apply, hc]
  exact hv

/-- The activation. -/
theorem active (R : Reads A x0 x1 x2 x5 x6 x7 x8 x9 x10 x11 x12 x13 x14) (i : S262144x512.Idx) :
    val_main_v28 (F := Ideal) x0 x5 x6 x7 x8 i = ((act A (i 0) (i 1) : ℝ) : EReal) := by
  have hr : val_main_v14 (F := Ideal) x0 x5 x6 (ix1 (i 1)) = (((Real.sqrt (vr A (i 1) + eps))⁻¹ : ℝ) : EReal) := by
    rw [val_main_v14_apply, val_main_v13_apply, variance R, val_main_v12_apply, val_main_cst_1_apply, lit_eps]
    exact (congrArg Ideal.rsqrt (EReal.coe_add _ _).symm).trans (rsqrt_real _ (vr_eps_pos A (i 1)))
  have hy : val_main_v23 (F := Ideal) x0 x5 x6 x7 x8 i
      = ((hid A (i 0) (i 1) * scl A (i 1) + sft A (i 1) : ℝ) : EReal) := by
    rw [val_main_v23_apply, val_main_v20_apply, val_main_v17_apply, val_main_v11_apply, hidden R, val_main_v10_apply,
      val_main_v9_apply, mean R, val_main_v16_apply, val_main_v15_apply, val_main_v19_apply, val_main_v18_apply, R.gam,
      val_main_v22_apply, val_main_v21_apply, R.bet,
      show val_main_v14 (F := Ideal) x0 x5 x6 (idx_main_v15 (idx_main_v16 i)) = _ from
        (congrArg _ (funext fun a => by match a with | ⟨0, _⟩ => rfl)).trans hr]
    refine Eq.trans ?_ (congrArg Real.toEReal ((congrArg (fun t => t * (Real.sqrt (vr A (i 1) + eps))⁻¹ * A.gam (i 1) + A.bet (i 1))
      (show hid A (i 0) (i 1) + A.b0 (i 1) - (mu A (i 1) + A.b0 (i 1)) = hid A (i 0) (i 1) - mu A (i 1) by ring)).trans
      (normed A (i 0) (i 1))))
    exact norm_real _ _ _ _ _
  rw [val_main_v28_apply, val_main_v25_apply, val_main_v27_apply, hy, val_main_v24_apply, val_main_cst_2_apply, lit_zero,
    val_main_v26_apply, val_main_cst_3_apply, lit_slope]
  refine (select_iff _ _ (oge_real _ _) _ _).trans ?_
  unfold act leaky
  split
  · rfl
  · exact (EReal.coe_mul _ _).symm

/-- The embedding. -/
theorem embedding (R : Reads A x0 x1 x2 x5 x6 x7 x8 x9 x10 x11 x12 x13 x14) (i : S262144x128.Idx) :
    val_main_v33 (F := Ideal) x0 x5 x6 x7 x8 x9 x10 i = ((emb A (i 0) (i 1) : ℝ) : EReal) := by
  rw [val_main_v33_apply, val_main_v30_apply, val_main_v32_apply, val_main_v31_apply, R.b1]
  refine Eq.trans ?_ (EReal.coe_add _ _).symm
  refine congrArg (· + _) (sum_eq_real _ _ fun k => ?_)
  rw [active R, val_main_v29_apply, R.w1, ← EReal.coe_mul]; rfl

/-- A training row's index as a signed word is the row's number. -/
theorem idx_int (r : Fin 131072) : (BitVec.ofNat 32 r.val).toInt = (r.val : ℤ) := by
  have h := r.isLt
  have e : (BitVec.ofNat 32 r.val).toNat = r.val := by rw [BitVec.toNat_ofNat]; exact Nat.mod_eq_of_lt (by omega)
  rw [BitVec.toInt_eq_toNat_of_lt (by rw [e]; omega), e]

theorem idx_nat (r : Fin 131072) : (BitVec.ofNat 32 r.val).toInt.toNat = r.val := by rw [idx_int]; exact Int.toNat_natCast _

/-- An index that is not negative is not moved. -/
theorem idx_keep (r : Fin 131072) : ¬ (BitVec.ofNat 32 r.val).toInt < (0#32).toInt := by
  rw [idx_int]
  show ¬ (r.val : ℤ) < 0
  omega

/-- The row indices the embedding is taken at. -/
theorem rows_emb (R : Reads A x0 x1 x2 x5 x6 x7 x8 x9 x10 x11 x12 x13 x14) (i : S131072x1.Idx) :
    val_main_v39 (F := Ideal) x2 i = BitVec.ofNat 32 (i 0).val := by
  rw [val_main_v39_apply, val_main_v38_apply, val_main_v35_apply, val_main_v34_apply, val_main_c_4_apply, R.idx]
  rw [eq_zero_of_ne_one (fun h => idx_keep (i 0) (IntOp.cmpi_slt.mp h))]
  exact select_zero _ _

/-- The row indices the labels are taken at. -/
theorem rows_lab (R : Reads A x0 x1 x2 x5 x6 x7 x8 x9 x10 x11 x12 x13 x14) (i : S131072x1.Idx) :
    val_main_v48 (F := Ideal) x2 i = BitVec.ofNat 32 (i 0).val := by
  rw [val_main_v48_apply, val_main_v45_apply, val_main_v42_apply, val_main_v41_apply, val_main_c_6_apply, R.idx]
  rw [eq_zero_of_ne_one (fun h => idx_keep (i 0) (IntOp.cmpi_slt.mp h))]
  exact select_zero _ _

/-- The training rows' embeddings. -/
theorem taken (R : Reads A x0 x1 x2 x5 x6 x7 x8 x9 x10 x11 x12 x13 x14) (i : S131072x128.Idx) :
    val_main_v40 (F := Ideal) x0 x2 x5 x6 x7 x8 x9 x10 i = ((emb A (row (i 0)) (i 1) : ℝ) : EReal) := by
  have h0 : (i 0).val < 131072 := (i 0).isLt
  unfold val_main_v40 Host.gather
  rw [embedding R]
  refine congrArg Real.toEReal (congrArg₂ (emb A) (Fin.ext ?_) (Fin.ext ?_))
  · show GatherDims.start gather_S262144x128_S131072x1_S131072x128_1_0_n_n_0_1_1128 i _ 0
        + GatherDims.batchCoord gather_S262144x128_S131072x1_S131072x128_1_0_n_n_0_1_1128 i 0
        + GatherDims.offCoord gather_S262144x128_S131072x1_S131072x128_1_0_n_n_0_1_1128 i 0 = (i 0).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S262144x128_S131072x1_S131072x128_1_0_n_n_0_1_1128.startIndexMap from
      List.mem_singleton.mpr rfl), rows_emb R]
    refine (congrArg (fun t => min t _ + 0 + 0) (idx_nat (i 0))).trans ?_
    show min (i 0).val 262143 + 0 + 0 = _
    omega
  · show GatherDims.start gather_S262144x128_S131072x1_S131072x128_1_0_n_n_0_1_1128 i _ 1
        + GatherDims.batchCoord gather_S262144x128_S131072x1_S131072x128_1_0_n_n_0_1_1128 i 1
        + GatherDims.offCoord gather_S262144x128_S131072x1_S131072x128_1_0_n_n_0_1_1128 i 1 = (i 1).val
    rw [GatherDims.batchCoord_eq_zero _ _ _ List.not_mem_nil]
    unfold GatherDims.start
    rw [dif_neg (show (1 : Fin 2) ∉ gather_S262144x128_S131072x1_S131072x128_1_0_n_n_0_1_1128.startIndexMap from
      fun h => absurd (List.mem_singleton.mp h) (by decide))]
    show 0 + 0 + _ = _
    rw [zero_add, zero_add]
    rfl

/-- The training rows' labels. -/
theorem labels (R : Reads A x0 x1 x2 x5 x6 x7 x8 x9 x10 x11 x12 x13 x14) (i : S131072.Idx) :
    val_main_v51 (F := Ideal) x1 x2 i = x1 (ix2 (row (i 0)) (0 : Fin 1)) := by
  have h0 : (i 0).val < 131072 := (i 0).isLt
  unfold val_main_v51 Host.gather
  refine congrArg x1 (funext fun a => ?_)
  have h01 : a = 0 ∨ a = 1 := by
    match a with
    | ⟨0, _⟩ => exact Or.inl rfl
    | ⟨1, _⟩ => exact Or.inr rfl
  rcases h01 with rfl | rfl
  · refine Fin.ext ?_
    show GatherDims.start gather_S262144x1_S131072x2_S131072_n_01_n_n_01_1_11 i _ 0
        + GatherDims.batchCoord gather_S262144x1_S131072x2_S131072_n_01_n_n_01_1_11 i 0
        + GatherDims.offCoord gather_S262144x1_S131072x2_S131072_n_01_n_n_01_1_11 i 0 = (i 0).val
    rw [GatherDims.batchCoord_eq_zero _ _ _ List.not_mem_nil,
      GatherDims.offCoord_eq_zero _ _ _ (fun h => ((GatherDims.mem_sKept _ _).mp h).1 (List.mem_cons_self ..))]
    unfold GatherDims.start
    rw [dif_pos (show (0 : Fin 2) ∈ gather_S262144x1_S131072x2_S131072_n_01_n_n_01_1_11.startIndexMap from
      List.mem_cons_self ..)]
    have e : val_main_v50 (F := Ideal) x2 (gather_S262144x1_S131072x2_S131072_n_01_n_n_01_1_11.siIdx i
        ⟨List.idxOf (0 : Fin 2) gather_S262144x1_S131072x2_S131072_n_01_n_n_01_1_11.startIndexMap,
          List.idxOf_lt_length_iff.2 (List.mem_cons_self ..)⟩) = BitVec.ofNat 32 (i 0).val := by
      unfold val_main_v50
      refine (concatenate_pair_apply_left (t := S131072x2) (s₁ := S131072x1) (s₂ := S131072x1) 1 _ _ _ _ rfl
        (ix2 (i 0) (0 : Fin 1)) fun b => ?_).trans (rows_lab R _)
      match b with
      | ⟨0, _⟩ => rfl
      | ⟨1, _⟩ => rfl
    rw [e]
    refine (congrArg (fun t => min t _ + 0 + 0) (idx_nat (i 0))).trans ?_
    show min (i 0).val 262143 + 0 + 0 = _
    omega
  · exact Subsingleton.elim (α := Fin 1) _ _

/-- The attention score of a training row for a class, with its bias. -/
theorem scored (R : Reads A x0 x1 x2 x5 x6 x7 x8 x9 x10 x11 x12 x13 x14) (i : S32x131072.Idx) :
    val_main_v63 (F := Ideal) x0 x2 x5 x6 x7 x8 x9 x10 x11 x12 x13 x14 i
      = ((score A (i 1) (i 0) + A.vb (i 0) : ℝ) : EReal) := by
  rw [val_main_v63_apply, val_main_v60_apply, val_main_v62_apply, val_main_v61_apply, R.vb, EReal.coe_add]
  refine congrArg (· + _) (sum_eq_real _ _ fun d => ?_)
  rw [R.v, val_main_v59_apply, val_main_v58_apply, val_main_v56_apply, val_main_v54_apply, val_main_v57_apply,
    val_main_v55_apply, R.ab, EReal.coe_mul]
  refine congrArg (· * _) ?_
  refine Eq.trans (congrArg Ideal.tanh (congrArg (· + _) (Finset.sum_congr rfl fun k _ => ?_))) (tanh_real _)
  rw [taken R, val_main_v53_apply, R.aw]; rfl

/-- Whether a training row is of a class. -/
theorem member (R : Reads A x0 x1 x2 x5 x6 x7 x8 x9 x10 x11 x12 x13 x14) (i : S32x131072.Idx) :
    val_main_v68 (F := Ideal) x1 x2 i = 1#1 ↔ A.mem (i 1) (i 0) := by
  rw [val_main_v68_apply, val_main_v66_apply, val_main_v64_apply, labels R, val_main_v67_apply, val_main_v65_apply,
    val_main_v52_apply, IntOp.cmpi_eq]
  exact (R.mem (i 1) (i 0)).symm

open Classical in
/-- The masked score. -/
theorem masked (R : Reads A x0 x1 x2 x5 x6 x7 x8 x9 x10 x11 x12 x13 x14) (i : S32x131072.Idx) :
    val_main_v69 (F := Ideal) x0 x1 x2 x5 x6 x7 x8 x9 x10 x11 x12 x13 x14 i
      = if A.mem (i 1) (i 0) then ((score A (i 1) (i 0) + A.vb (i 0) : ℝ) : EReal) else ⊥ := by
  rw [val_main_v69_apply, scored R, val_main_call2_v2_apply, val_main_call2_v1_apply, val_main_call2_v0_apply,
    val_main_cst_9_apply, lit_bot]
  exact select_iff _ _ (member R i) _ _

/-- The greatest masked score of a class is a real. -/
theorem greatest (R : Reads A x0 x1 x2 x5 x6 x7 x8 x9 x10 x11 x12 x13 x14) (i : S32.Idx) :
    ∃ M : ℝ, val_main_v72 (F := Ideal) x0 x1 x2 x5 x6 x7 x8 x9 x10 x11 x12 x13 x14 i = ((M : ℝ) : EReal) := by
  classical
  obtain ⟨r, hr⟩ := R.full (i 0)
  have hM : ∃ M : ℝ, val_main_v70 (F := Ideal) x0 x1 x2 x5 x6 x7 x8 x9 x10 x11 x12 x13 x14 i = ((M : ℝ) : EReal) := by
    have e := Host.reduce_eq_fold_single (f := (max : EReal → EReal → EReal))
      (val_main_v69 (F := Ideal) x0 x1 x2 x5 x6 x7 x8 x9 x10 x11 x12 x13 x14) (val_main_cst_10 (F := Ideal))
      reducesTo_S32x131072_S32_d1 (by decide) h_S_ i
    obtain ⟨M, hM⟩ := fold_max_real (Finset.univ : Finset (Fin (S32x131072.size 1)))
      (val_main_v69 (F := Ideal) x0 x1 x2 x5 x6 x7 x8 x9 x10 x11 x12 x13 x14
        ∘ Shape.Reduces.lift (a := 1) (by decide) i) (val_main_cst_10 (F := Ideal) (Shape.Idx.first h_S_))
      (by rw [val_main_cst_10_apply, lit_bot]; exact bot_lt_top)
      (fun k => by
        show val_main_v69 (F := Ideal) x0 x1 x2 x5 x6 x7 x8 x9 x10 x11 x12 x13 x14 _ < ⊤
        rw [masked R]
        split
        · exact EReal.coe_lt_top _
        · exact bot_lt_top)
      r (Finset.mem_univ _) (score A r (i 0) + A.vb (i 0)) (by
        show _ ≤ val_main_v69 (F := Ideal) x0 x1 x2 x5 x6 x7 x8 x9 x10 x11 x12 x13 x14 _
        rw [masked R]
        exact (if_pos hr).ge)
    exact ⟨M, e.trans hM⟩
  obtain ⟨M, hM⟩ := hM
  refine ⟨M, ?_⟩
  rw [val_main_v72_apply, val_main_v71_apply, val_main_cst_11_apply, lit_bot, hM]
  exact max_eq_right bot_le

/-- The prototypes. -/
theorem prototype (R : Reads A x0 x1 x2 x5 x6 x7 x8 x9 x10 x11 x12 x13 x14) (i : S32x128.Idx) :
    val_main_v81 (F := Ideal) x0 x1 x2 x5 x6 x7 x8 x9 x10 x11 x12 x13 x14 i = ((prt A (i 1) (i 0) : ℝ) : EReal) := by
  classical
  obtain ⟨M, hM0⟩ := greatest R (ix1 (i 0))
  have hM : ∀ j : S32.Idx, j 0 = i 0 →
      val_main_v72 (F := Ideal) x0 x1 x2 x5 x6 x7 x8 x9 x10 x11 x12 x13 x14 j = ((M : ℝ) : EReal) := fun j hj =>
    (congrArg _ (funext fun a => by match a with | ⟨0, _⟩ => exact hj)).trans hM0
  set t : ℝ := A.vb (i 0) - M
  have he : ∀ j : S32x131072.Idx, j 0 = i 0 →
      val_main_v76 (F := Ideal) x0 x1 x2 x5 x6 x7 x8 x9 x10 x11 x12 x13 x14 j
        = ((wt A (j 1) (i 0) * Real.exp t : ℝ) : EReal) := fun j hj => by
    rw [val_main_v76_apply, val_main_v75_apply, masked R, val_main_v74_apply, val_main_v73_apply,
      hM _ hj, hj]
    unfold wt
    split
    · refine (congrArg Ideal.exp (EReal.coe_sub _ _).symm).trans ((exp_real _).trans (congrArg _ ?_))
      rw [← Real.exp_add]
      exact congrArg Real.exp (add_sub_assoc _ _ _)
    · rw [zero_mul]
      exact (congrArg Ideal.exp (EReal.bot_sub (M : EReal))).trans exp_bot
  have hpos : (∑ r, wt A r (i 0) * Real.exp t) ≠ 0 := by
    rw [← Finset.sum_mul]
    exact (mul_pos (den_pos A (i 0) (R.full (i 0))) (Real.exp_pos t)).ne'
  have hs : ∀ j : S32x131072.Idx, j 0 = i 0 →
      val_main_v79 (F := Ideal) x0 x1 x2 x5 x6 x7 x8 x9 x10 x11 x12 x13 x14 j
        = ((∑ r, wt A r (i 0) * Real.exp t : ℝ) : EReal) := fun j hj => by
    rw [val_main_v79_apply, val_main_v78_apply, val_main_v77_apply, val_main_cst_12_apply, lit_zero, EReal.coe_zero, zero_add]
    exact sum_eq_real _ _ fun k => he (idx_main_v77 (idx_main_v78 (idx_main_v79 j)) k) hj
  rw [val_main_v81_apply, ← softmax_shift A (i 0) (i 1) t]
  refine sum_eq_real _ _ fun k => ?_
  rw [val_main_v80_apply, he _ rfl, hs _ rfl, taken R, EReal.coe_mul]
  exact congrArg (· * _) (div_real _ _ hpos)

/-- The first result. -/
theorem first_result (R : Reads A x0 x1 x2 x5 x6 x7 x8 x9 x10 x11 x12 x13 x14) (i : S262144x32.Idx) :
    val_main_v112 (F := Ideal) x0 x1 x2 x5 x6 x7 x8 x9 x10 x11 x12 x13 x14 i = ((far A (i 0) (i 1) : ℝ) : EReal) := by
  have h1 : val_main_v104 (F := Ideal) x0 x5 x6 x7 x8 x9 x10 i
      = ((∑ d, emb A (i 0) d * emb A (i 0) d : ℝ) : EReal) := by
    rw [val_main_v104_apply, val_main_v100_apply, val_main_v99_apply, val_main_cst_18_apply, lit_zero, EReal.coe_zero, zero_add]
    refine sum_eq_real _ _ fun d => ?_
    rw [val_main_v98_apply, embedding R, EReal.coe_mul]; rfl
  have h2 : val_main_v105 (F := Ideal) x0 x1 x2 x5 x6 x7 x8 x9 x10 x11 x12 x13 x14 i = ((len A (i 1) : ℝ) : EReal) := by
    rw [val_main_v105_apply, val_main_v103_apply, val_main_v102_apply, val_main_cst_19_apply, lit_zero, EReal.coe_zero, zero_add]
    refine sum_eq_real _ _ fun d => ?_
    rw [val_main_v101_apply, prototype R, EReal.coe_mul]; rfl
  have h3 : val_main_v108 (F := Ideal) x0 x1 x2 x5 x6 x7 x8 x9 x10 x11 x12 x13 x14 i
      = ((∑ d, emb A (i 0) d * prt A d (i 1) : ℝ) : EReal) := by
    rw [val_main_v108_apply]
    refine sum_eq_real _ _ fun d => ?_
    rw [embedding R, val_main_v107_apply, prototype R, EReal.coe_mul]; rfl
  rw [val_main_v112_apply, val_main_v111_apply, val_main_v106_apply, val_main_v110_apply, h1, h2, h3, val_main_v109_apply,
    val_main_cst_20_apply, lit_two]
  show -(((_ : ℝ) : EReal) + ((_ : ℝ) : EReal) - ((2 : ℝ) : EReal) * ((_ : ℝ) : EReal)) = _
  rw [← EReal.coe_mul, ← EReal.coe_add, ← EReal.coe_sub, ← EReal.coe_neg]
  refine congrArg _ ?_
  unfold far; ring

/-- The second result. -/
theorem second_result (R : Reads A x0 x1 x2 x5 x6 x7 x8 x9 x10 x11 x12 x13 x14) (i : S_.Idx) :
    val_main_v97 (F := Ideal) x0 x1 x2 x5 x6 x7 x8 x9 x10 x11 x12 x13 x14 i = ((spread A : ℝ) : EReal) := by
  have h1 : ∀ j : S32.Idx, val_main_v83 (F := Ideal) x0 x1 x2 x5 x6 x7 x8 x9 x10 x11 x12 x13 x14 j
      = ((len A (j 0) : ℝ) : EReal) := fun j => by
    rw [val_main_v83_apply, val_main_cst_13_apply, lit_zero, EReal.coe_zero, zero_add]
    refine sum_eq_real _ _ fun d => ?_
    rw [val_main_v82_apply, prototype R, EReal.coe_mul]; rfl
  have h2 : ∀ j : S32.Idx, val_main_v86 (F := Ideal) x0 x1 x2 x5 x6 x7 x8 x9 x10 x11 x12 x13 x14 j
      = ((len A (j 0) : ℝ) : EReal) := fun j => by
    rw [val_main_v86_apply, val_main_cst_14_apply, lit_zero, EReal.coe_zero, zero_add]
    refine sum_eq_real _ _ fun d => ?_
    rw [val_main_v85_apply, prototype R, EReal.coe_mul]; rfl
  have h3 : ∀ j : S32x32.Idx, val_main_v92 (F := Ideal) x0 x1 x2 x5 x6 x7 x8 x9 x10 x11 x12 x13 x14 j
      = ((∑ d, prt A d (j 0) * prt A d (j 1) : ℝ) : EReal) := fun j => by
    rw [val_main_v92_apply]
    refine sum_eq_real _ _ fun d => ?_
    rw [prototype R, val_main_v91_apply, prototype R, EReal.coe_mul]; rfl
  have h4 : ∀ j : S32x32.Idx, val_main_v95 (F := Ideal) x0 x1 x2 x5 x6 x7 x8 x9 x10 x11 x12 x13 x14 j
      = ((gap A (j 0) (j 1) : ℝ) : EReal) := fun j => by
    rw [val_main_v95_apply, val_main_v90_apply, val_main_v88_apply, val_main_v84_apply, h1, val_main_v89_apply,
      val_main_v87_apply, h2, val_main_v94_apply, h3, val_main_v93_apply, val_main_cst_15_apply, lit_two]
    show ((_ : ℝ) : EReal) + ((_ : ℝ) : EReal) - ((2 : ℝ) : EReal) * ((_ : ℝ) : EReal) = _
    rw [← EReal.coe_mul, ← EReal.coe_add, ← EReal.coe_sub]; rfl
  rw [val_main_v97_apply, val_main_v96_apply, val_main_cst_16_apply, lit_zero, EReal.coe_zero, zero_add, val_main_cst_17_apply,
    lit_pairs, sum_eq_real _ _ h4]
  refine (div_real _ _ (by norm_num)).trans (congrArg _ ?_)
  unfold spread
  rw [sum_idx2]

end Cert.Proof.Ref
-- ==== Proof.Value.Upto.lean ====
/-
  Sums over the first rows of an array, which a kernel builds block by block.
-/
module

public import proofs.«01_k».proof.Proof.Value.Law

@[expose] public section

noncomputable section

namespace Cert.Spec

open scoped BigOperators

/-- The sum of the first `n` of `N` numbers. -/
def upto {N : ℕ} (f : Fin N → ℝ) (n : ℕ) : ℝ := ∑ i ∈ Finset.range n, if h : i < N then f ⟨i, h⟩ else 0

theorem upto_zero {N : ℕ} (f : Fin N → ℝ) : upto f 0 = 0 := Finset.sum_range_zero _

/-- The next `b` numbers. -/
theorem upto_add {N : ℕ} (f : Fin N → ℝ) (n b : ℕ) (h : n + b ≤ N) :
    upto f (n + b) = upto f n + ∑ r : Fin b, f ⟨n + r.val, by omega⟩ := by
  unfold upto
  rw [Finset.sum_range_add, Finset.sum_range (n := b)]
  refine congrArg _ (Finset.sum_congr rfl fun r _ => ?_)
  rw [dif_pos]

/-- All of them. -/
theorem upto_end {N : ℕ} (f : Fin N → ℝ) (n : ℕ) (h : n = N) : upto f n = ∑ i, f i := by
  subst h
  unfold upto
  rw [Finset.sum_range (n := n)]
  refine Finset.sum_congr rfl fun r _ => ?_
  rw [dif_pos r.isLt]

end Cert.Spec
-- ==== Proof.Value.Reading.lean ====
/-
  The operations of the kernel's bodies over the extended reals, read at an index given by its coordinates.
-/
module

public import proofs.«01_k».proof.Proof.Value.Law
public import Idealize.ShloMosaic.Lib.MatmulPlain
public import Idealize.ShloMosaic.Lib.ValueIdxCore
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

namespace Cert.Reading

open Cert.Law
open Idealize.ShloMosaic Idealize.ShloMosaic.ValueIdx
open scoped BigOperators

/-- A product with the right operand transposed, into zero. -/
theorem dot_nt {M K N : ℕ} (prec : Option ContractPrecision) (l : FVec Ideal ⟨2, ![M, K]⟩ .f32) (r : FVec Ideal ⟨2, ![N, K]⟩ .f32)
    (i : (⟨2, ![M, N]⟩ : Shape).Idx) :
    FloatOps.matmul (DotDims.transposedRhs M K N) prec l r (constant ⟨2, ![M, N]⟩ .f32 0x00000000#32) i
      = ∑ k : Fin K, l (ix2 (i 0) k) * r (ix2 (i 1) k) := by
  obtain ⟨a, b, rfl⟩ : ∃ a b, i = ix2 a b := ⟨i 0, i 1, eq_ix2 i⟩
  refine (Ideal.matmul_transposedRhs_apply prec l r _ a b).trans ?_
  exact (congrArg (· + _) lit_zero).trans (zero_add _)

/-- A plain product, into zero. -/
theorem dot_nn {M K N : ℕ} (prec : Option ContractPrecision) (l : FVec Ideal ⟨2, ![M, K]⟩ .f32) (r : FVec Ideal ⟨2, ![K, N]⟩ .f32)
    (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  obtain ⟨a, b, rfl⟩ : ∃ a b, i = ix2 a b := ⟨i 0, i 1, eq_ix2 i⟩
  refine (Ideal.matmul_plain_apply prec l r _ a b).trans ?_
  exact (congrArg (· + _) lit_zero).trans (zero_add _)

/-- A sum over the rows. -/
theorem sum_rows {M N : ℕ} (src : FVec Ideal ⟨2, ![M, N]⟩ .f32) (acc : BitVec FTy.f32.bits)
    (h : (⟨2, ![M, N]⟩ : Shape).Reduces [0] ⟨1, ![N]⟩) (hφ : FKind.Formats .f32) (hacc : acc = FKind.add.neutral .f32 hφ)
    (i : (⟨1, ![N]⟩ : Shape).Idx) :
    multiReduction .add [0] ⟨1, ![N]⟩ src acc h hφ hacc i = ∑ r : Fin M, src (ix2 r (i 0)) := by
  rw [Ideal.multiReduction_add_single]
  refine Finset.sum_congr rfl fun r _ => congrArg src ?_
  funext a
  match a with
  | ⟨0, _⟩ => rfl
  | ⟨1, _⟩ => rfl

/-- A sum over the columns. -/
theorem sum_cols {M N : ℕ} (src : FVec Ideal ⟨2, ![M, N]⟩ .f32) (acc : BitVec FTy.f32.bits)
    (h : (⟨2, ![M, N]⟩ : Shape).Reduces [1] ⟨1, ![M]⟩) (hφ : FKind.Formats .f32) (hacc : acc = FKind.add.neutral .f32 hφ)
    (i : (⟨1, ![M]⟩ : Shape).Idx) :
    multiReduction .add [1] ⟨1, ![M]⟩ src acc h hφ hacc i = ∑ r : Fin N, src (ix2 (i 0) r) := by
  rw [Ideal.multiReduction_add_single]
  refine Finset.sum_congr rfl fun r _ => congrArg src ?_
  funext a
  match a with
  | ⟨0, _⟩ => rfl
  | ⟨1, _⟩ => rfl

/-- A maximum over the rows. -/
theorem max_rows {M N : ℕ} (src : FVec Ideal ⟨2, ![M, N]⟩ .f32) (acc : BitVec FTy.f32.bits)
    (h : (⟨2, ![M, N]⟩ : Shape).Reduces [0] ⟨1, ![N]⟩) (hφ : FKind.Formats .f32) (hacc : acc = FKind.maximumf.neutral .f32 hφ)
    (i : (⟨1, ![N]⟩ : Shape).Idx) :
    multiReduction .maximumf [0] ⟨1, ![N]⟩ src acc h hφ hacc i
      = (Finset.univ : Finset (Fin M)).fold max (FloatOps.ofBits .f32 acc) (fun r => src (ix2 r (i 0))) := by
  rw [Ideal.multiReduction_maximumf_single]
  refine Finset.fold_congr fun r _ => congrArg src ?_
  funext a
  match a with
  | ⟨0, _⟩ => rfl
  | ⟨1, _⟩ => rfl

/-- A vector laid out as one row. -/
theorem as_row {α : Type} {N : ℕ} (v : (⟨1, ![N]⟩ : Shape).Idx → α) (h : (⟨1, ![N]⟩ : Shape).ShapeCasts ⟨2, ![1, N]⟩)
    (i : (⟨2, ![1, N]⟩ : Shape).Idx) : shapeCast ⟨2, ![1, N]⟩ v h i = v (ix1 (i 1)) := by
  rw [eq_ix2 i]; exact shapeCast_a_1a_apply v h _ _

/-- A vector laid out as one column. -/
theorem as_col {α : Type} {N : ℕ} (v : (⟨1, ![N]⟩ : Shape).Idx → α) (h : (⟨1, ![N]⟩ : Shape).ShapeCasts ⟨2, ![N, 1]⟩)
    (i : (⟨2, ![N, 1]⟩ : Shape).Idx) : shapeCast ⟨2, ![N, 1]⟩ v h i = v (ix1 (i 0)) := by
  rw [eq_ix2 i]; exact shapeCast_a_a1_apply v h _ _

/-- One row, repeated. -/
theorem row_bcast {α : Type} {M N : ℕ} (v : (⟨2, ![1, N]⟩ : Shape).Idx → α) (h : (⟨2, ![1, N]⟩ : Shape).Broadcasts ⟨2, ![M, N]⟩)
    (i : (⟨2, ![M, N]⟩ : Shape).Idx) : broadcastTo ⟨2, ![M, N]⟩ v h i = v (ix2 (0 : Fin 1) (i 1)) := by
  rw [eq_ix2 i]; exact broadcastTo_1b_ab_apply v h _ _

/-- One column, repeated. -/
theorem col_bcast {α : Type} {M N : ℕ} (v : (⟨2, ![M, 1]⟩ : Shape).Idx → α) (h : (⟨2, ![M, 1]⟩ : Shape).Broadcasts ⟨2, ![M, N]⟩)
    (i : (⟨2, ![M, N]⟩ : Shape).Idx) : broadcastTo ⟨2, ![M, N]⟩ v h i = v (ix2 (i 0) (0 : Fin 1)) := by
  refine broadcastTo_apply v h i _ fun a => ?_
  match a with
  | ⟨0, _⟩ =>
    show (i 0).val = if M = 1 then 0 else (i 0).val
    split
    · have h0 : (i 0).val < M := (i 0).isLt
      omega
    · rfl
  | ⟨1, _⟩ => rfl

/-- The dimension numbers of a product with the left operand transposed. -/
def tnDims {M K N : ℕ} (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- A product with the left operand transposed, into zero. -/
theorem dot_tn {M K N : ℕ} (wf : DotDims.WF ⟨2, ![K, M]⟩ ⟨2, ![K, N]⟩ ⟨2, ![M, N]⟩ [0] [0] [1] [1] [] [])
    (prec : Option ContractPrecision) (l : FVec Ideal ⟨2, ![K, M]⟩ .f32) (r : FVec Ideal ⟨2, ![K, N]⟩ .f32)
    (i : (⟨2, ![M, N]⟩ : Shape).Idx) :
    FloatOps.matmul (tnDims wf) prec l r (constant ⟨2, ![M, N]⟩ .f32 0x00000000#32) i
      = ∑ k : Fin K, l (ix2 k (i 0)) * r (ix2 k (i 1)) := by
  rw [Ideal.matmul_constant_zero_apply, ← Equiv.sum_comp (contrEquiv1 (tnDims wf) K rfl rfl).symm]
  refine Finset.sum_congr rfl fun k _ => ?_
  have hk := contrEquiv1_symm_val (tnDims wf) K rfl rfl k
  refine congrArg₂ (· * ·) (congrArg l ?_) (congrArg r ?_)
  · funext a; apply Fin.ext
    match a with
    | ⟨0, _⟩ => exact hk
    | ⟨1, _⟩ => rfl
  · funext a; apply Fin.ext
    match a with
    | ⟨0, _⟩ => exact hk
    | ⟨1, _⟩ => rfl

end Cert.Reading
-- ==== Proof.Value.KStats.lean ====
/-
  The first launch over the reals: its two results hold, in every row, the column sums of the hidden layer and of its
  squares.
-/
module

public import proofs.«01_k».proof.Proof.Stats
public import proofs.«01_k».proof.Proof.Value.Spec
public import proofs.«01_k».proof.Proof.Value.Upto
public import proofs.«01_k».proof.Proof.Value.Reading
public import Idealize.ShloMosaic.Lib.Pipeline.Value

@[expose] public section

noncomputable section

namespace Cert.KernelIdeal.Real

open Cert.KernelIdeal.Gen Cert.KernelIdeal.Net Cert.Spec Cert.Law Cert.Reading
open Idealize.ShloMosaic Idealize.ShloMosaic.TcCoe Idealize.ShloMosaic.ValueIdx
open Idealize.ShloMosaic.Pipeline (Dat)
open scoped BigOperators

/-- Row `r` of block `t` of 4096 rows. -/
def at4096 (t : ℕ) (ht : t < 64) (r : Fin 4096) : Fin 262144 := ⟨t * 4096 + r.val, by omega⟩

theorem lt0 (t : Fin cfg0.N) : t.val < 64 := Nat.lt_of_lt_of_eq t.isLt N_0

/-- The last point of the grid. -/
abbrev last0 : Fin cfg0.N := ⟨63, by rw [show cfg0.N = 64 from N_0]; decide⟩

section Blocks

variable {F : FTy → Type} [FloatOps F]
variable (V : (c : Dev nD) → (b : Ref sig .tc) → Buf (Elt F) ((c : Thread nD τ).loc b)) (c : Dev nD)

/-- Window 0 of the first launch moves by 4096 rows a point. -/
theorem index0_0 (t : Fin cfg0.N) : win0_0.index t 0 = t.val ∧ win0_0.index t 1 = 0 := by
  have e0 : (grid0.coords t 0).val = t.val / 1 % 64 := Pipeline.Grid.coords_val t 0 (by decide) rfl
  have ht := lt0 t
  constructor
  · show (BitVec.ofNat 32 (grid0.coords t 0).val).toNat = t.val
    rw [BitVec.toNat_ofNat, e0]; omega
  · rfl

theorem blk0_0 (t : Fin cfg0.N) (j : S4096x256.Idx) :
    (blk0 V c 0 t : S4096x256.Idx → Elt F .f32) j
      = (V c main_arg0 : S262144x256.Idx → Elt F .f32) (ix2 (at4096 t.val (lt0 t) (j 0)) (j 1)) := by
  refine congrArg (V c main_arg0 : S262144x256.Idx → Elt F .f32) (funext fun a => Fin.ext ?_)
  match a with
  | ⟨0, _⟩ =>
    refine (win0_0.rect_emb_val t j 0).trans ?_
    rw [(index0_0 t).1]; rfl
  | ⟨1, _⟩ => exact win0_0.rect_emb_val_of_index_zero t 1 (index0_0 t).2 j

theorem blk0_1 (t : Fin cfg0.N) : (blk0 V c 1 t : S512x256.Idx → Elt F .f32) = V c main_arg5 := by
  funext j
  refine congrArg (V c main_arg5 : S512x256.Idx → Elt F .f32) (funext fun a => Fin.ext ?_)
  match a with
  | ⟨0, _⟩ => exact win0_1.rect_emb_val_of_index_zero t 0 rfl j
  | ⟨1, _⟩ => exact win0_1.rect_emb_val_of_index_zero t 1 rfl j

/-- The accumulators are written back after the last point, whole. -/
theorem out0_2 (G : S8x512.Idx → Elt F .f32) (h : (stats V c last0.val last0.isLt).1 = G) :
    ((dat0 V c).arrAt 2 cfg0.N : S8x512.Idx → Elt F .f32) = G := by
  refine (dat0 V c).arrAt_eq_of_cover 2 G (fun t hf => ?_) fun i => ⟨last0, (flush0_2 _).mpr rfl, ?_⟩
  · have h3 : t.val = 63 := by have := (flush0_2 t).mp hf; have := lt0 t; omega
    obtain rfl : t = last0 := Fin.ext h3
    funext j
    refine (congrFun ((after0_2 V c _).trans h) j).trans (congrArg G (funext fun a => Fin.ext ?_))
    match a with
    | ⟨0, _⟩ => exact (win0_2.rect_emb_val_of_index_zero _ 0 rfl j).symm
    | ⟨1, _⟩ => exact (win0_2.rect_emb_val_of_index_zero _ 1 rfl j).symm
  · show i ∈ ((View.whole main_v0_0).slice (win0_2.rect last0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

theorem out0_3 (G : S8x512.Idx → Elt F .f32) (h : (stats V c last0.val last0.isLt).2 = G) :
    ((dat0 V c).arrAt 3 cfg0.N : S8x512.Idx → Elt F .f32) = G := by
  refine (dat0 V c).arrAt_eq_of_cover 3 G (fun t hf => ?_) fun i => ⟨last0, (flush0_3 _).mpr rfl, ?_⟩
  · have h3 : t.val = 63 := by have := (flush0_3 t).mp hf; have := lt0 t; omega
    obtain rfl : t = last0 := Fin.ext h3
    funext j
    refine (congrFun ((after0_3 V c _).trans h) j).trans (congrArg G (funext fun a => Fin.ext ?_))
    match a with
    | ⟨0, _⟩ => exact (win0_3.rect_emb_val_of_index_zero _ 0 rfl j).symm
    | ⟨1, _⟩ => exact (win0_3.rect_emb_val_of_index_zero _ 1 rfl j).symm
  · show i ∈ ((View.whole main_v0_1).slice (win0_3.rect last0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

end Blocks

/-! ## The bodies' values -/

variable {A : Net}

/-- A product of a block of rows with the first weights is that block of the hidden layer. -/
theorem hidden_blk (e : Fin 4096 → Fin 262144) (x : S4096x256.Idx → EReal) (w : S512x256.Idx → EReal)
    (hx : ∀ j, x j = ((A.x (e (j 0)) (j 1) : ℝ) : EReal)) (hw : ∀ i, w i = ((A.w0 (i 0) (i 1) : ℝ) : EReal)) (i : S4096x512.Idx) :
    k0_pay3 (F := Ideal) x w i = ((hid A (e (i 0)) (i 1) : ℝ) : EReal) := by
  refine (dot_nt none x w i).trans (sum_eq_real _ _ fun k => ?_)
  rw [hx, hw, ← EReal.coe_mul]

/-- An accumulator moved by the block's column sums. -/
theorem sums_next (e : Fin 4096 → Fin 262144) (x : S4096x256.Idx → EReal) (w : S512x256.Idx → EReal) (acc : S8x512.Idx → EReal)
    (f : Fin 512 → ℝ)
    (hx : ∀ j, x j = ((A.x (e (j 0)) (j 1) : ℝ) : EReal)) (hw : ∀ i, w i = ((A.w0 (i 0) (i 1) : ℝ) : EReal))
    (ha : ∀ i, acc i = ((f (i 1) : ℝ) : EReal)) (i : S8x512.Idx) :
    k0_pay4 (F := Ideal) x w acc i = ((f (i 1) + ∑ r, hid A (e r) (i 1) : ℝ) : EReal) := by
  unfold k0_pay4
  dsimp only
  rw [addf_apply, shapeCast_self, ha]
  refine Eq.trans (congrArg _ ?_) (EReal.coe_add _ _).symm
  refine (row_bcast _ _ i).trans ?_
  rw [shapeCast_self]
  refine (as_row _ _ _).trans ?_
  refine (sum_rows _ _ _ _ _ _).trans ?_
  exact sum_eq_real _ _ fun r => hidden_blk e x w hx hw _

theorem squares_next (e : Fin 4096 → Fin 262144) (x : S4096x256.Idx → EReal) (w : S512x256.Idx → EReal) (acc : S8x512.Idx → EReal)
    (f : Fin 512 → ℝ)
    (hx : ∀ j, x j = ((A.x (e (j 0)) (j 1) : ℝ) : EReal)) (hw : ∀ i, w i = ((A.w0 (i 0) (i 1) : ℝ) : EReal))
    (ha : ∀ i, acc i = ((f (i 1) : ℝ) : EReal)) (i : S8x512.Idx) :
    k0_pay5 (F := Ideal) x w acc i = ((f (i 1) + ∑ r, hid A (e r) (i 1) * hid A (e r) (i 1) : ℝ) : EReal) := by
  unfold k0_pay5
  dsimp only
  rw [addf_apply, shapeCast_self, ha]
  refine Eq.trans (congrArg _ ?_) (EReal.coe_add _ _).symm
  refine (row_bcast _ _ i).trans ?_
  rw [shapeCast_self]
  refine (as_row _ _ _).trans ?_
  refine (sum_rows _ _ _ _ _ _).trans ?_
  refine sum_eq_real _ _ fun r => ?_
  refine (congrArg₂ (· * ·) (hidden_blk e x w hx hw _) (hidden_blk e x w hx hw _)).trans (EReal.coe_mul _ _).symm

section Run

variable (V : (c : Dev nD) → (b : Ref sig .tc) → Buf (Elt Ideal) ((c : Thread nD τ).loc b)) (c : Dev nD)

/-- After point `n` the accumulators hold, in every row, the sums over the first `4096 * (n + 1)` rows. -/
theorem stats_eq (hx : ∀ i, (V c main_arg0 : S262144x256.Idx → EReal) i = ((A.x (i 0) (i 1) : ℝ) : EReal))
    (hw : ∀ i, (V c main_arg5 : S512x256.Idx → EReal) i = ((A.w0 (i 0) (i 1) : ℝ) : EReal)) :
    ∀ (n : ℕ) (h : n < cfg0.N) (i : S8x512.Idx),
      (stats V c n h).1 i = ((upto (fun r => hid A r (i 1)) ((n + 1) * 4096) : ℝ) : EReal)
      ∧ (stats V c n h).2 i = ((upto (fun r => hid A r (i 1) * hid A r (i 1)) ((n + 1) * 4096) : ℝ) : EReal) := by
  intro n
  have hb : ∀ t : Fin cfg0.N, ∀ j, (blk0 V c 0 t : S4096x256.Idx → EReal) j
      = ((A.x (at4096 t.val (lt0 t) (j 0)) (j 1) : ℝ) : EReal) := fun t j => (blk0_0 V c t j).trans (hx _)
  have hv : ∀ t : Fin cfg0.N, ∀ j, (blk0 V c 1 t : S512x256.Idx → EReal) j = ((A.w0 (j 0) (j 1) : ℝ) : EReal) :=
    fun t j => (congrFun (blk0_1 V c t) j).trans (hw _)
  have step : ∀ (f : Fin 262144 → ℝ) (n : ℕ) (hn : n < 64),
      upto f (n * 4096) + ∑ r, f (at4096 n hn r) = upto f ((n + 1) * 4096) := fun f n hn => by
    rw [Nat.succ_mul, upto_add f _ _ (by omega)]; rfl
  induction n with
  | zero =>
    intro h i
    have ha : ∀ i : S8x512.Idx, (k0_pay1 (F := Ideal)) i = (((fun _ => 0 : Fin 512 → ℝ) (i 1) : ℝ) : EReal) := fun i => lit_zero
    constructor
    · refine (sums_next _ _ _ _ (fun _ => 0) (hb ⟨0, h⟩) (hv ⟨0, h⟩) ha i).trans (congrArg _ ?_)
      rw [← step _ 0 (by decide), Nat.zero_mul, upto_zero]
    · refine (squares_next _ _ _ _ (fun _ => 0) (hb ⟨0, h⟩) (hv ⟨0, h⟩) ha i).trans (congrArg _ ?_)
      rw [← step _ 0 (by decide), Nat.zero_mul, upto_zero]
  | succ n ih =>
    intro h i
    have hn : n + 1 < 64 := lt0 ⟨n + 1, h⟩
    constructor
    · refine (sums_next _ _ _ _ (fun k => upto (fun r => hid A r k) ((n + 1) * 4096)) (hb ⟨n + 1, h⟩) (hv ⟨n + 1, h⟩)
        (fun i => (ih (by omega) i).1) i).trans (congrArg _ ?_)
      exact step (fun r => hid A r (i 1)) (n + 1) hn
    · refine (squares_next _ _ _ _ (fun k => upto (fun r => hid A r k * hid A r k) ((n + 1) * 4096)) (hb ⟨n + 1, h⟩) (hv ⟨n + 1, h⟩)
        (fun i => (ih (by omega) i).2) i).trans (congrArg _ ?_)
      exact step (fun r => hid A r (i 1) * hid A r (i 1)) (n + 1) hn

/-- The first result: the column sums of the hidden layer. -/
theorem sums (hx : ∀ i, (V c main_arg0 : S262144x256.Idx → EReal) i = ((A.x (i 0) (i 1) : ℝ) : EReal))
    (hw : ∀ i, (V c main_arg5 : S512x256.Idx → EReal) i = ((A.w0 (i 0) (i 1) : ℝ) : EReal)) :
    ((dat0 V c).arrAt 2 cfg0.N : S8x512.Idx → EReal) = fun i => ((hs A (i 1) : ℝ) : EReal) :=
  out0_2 V c _ (funext fun i => ((stats_eq V c hx hw 63 _ i).1).trans (congrArg _ (upto_end _ _ (by norm_num))))

/-- The second result: the column sums of its squares. -/
theorem squares (hx : ∀ i, (V c main_arg0 : S262144x256.Idx → EReal) i = ((A.x (i 0) (i 1) : ℝ) : EReal))
    (hw : ∀ i, (V c main_arg5 : S512x256.Idx → EReal) i = ((A.w0 (i 0) (i 1) : ℝ) : EReal)) :
    ((dat0 V c).arrAt 3 cfg0.N : S8x512.Idx → EReal) = fun i => ((hss A (i 1) : ℝ) : EReal) :=
  out0_3 V c _ (funext fun i => ((stats_eq V c hx hw 63 _ i).2).trans (congrArg _ (upto_end _ _ (by norm_num))))

end Run

end Cert.KernelIdeal.Real
-- ==== Proof.Value.KEmbed.lean ====
/-
  The second launch over the reals: its result holds the embedding of every row.
-/
module

public import proofs.«01_k».proof.Proof.Embed
public import proofs.«01_k».proof.Proof.Value.KStats

@[expose] public section

noncomputable section

namespace Cert.KernelIdeal.Real

open Cert.KernelIdeal.Gen Cert.KernelIdeal.Net Cert.Spec Cert.Law Cert.Reading
open Idealize.ShloMosaic Idealize.ShloMosaic.TcCoe Idealize.ShloMosaic.ValueIdx
open Idealize.ShloMosaic.Pipeline (Dat)
open scoped BigOperators

theorem lt1 (t : Fin cfg1.N) : t.val < 64 := Nat.lt_of_lt_of_eq t.isLt N_1

/-! ## The body's values -/

variable {A : Net}

/-- The mean of a column from its sum. -/
theorem mean_row (s : S1x512.Idx → EReal) (hs' : ∀ i, s i = ((hs A (i 1) : ℝ) : EReal)) (i : S1x512.Idx) :
    k1_pay1 (F := Ideal) s i = ((mu A (i 1) : ℝ) : EReal) := by
  unfold k1_pay1
  rw [divf_apply, shapeCast_self, hs']
  exact (congrArg (Ideal.div _) lit_rows).trans (div_real _ _ (by norm_num))

/-- The normalization's factor. -/
theorem scale_row (s q g : S1x512.Idx → EReal) (hs' : ∀ i, s i = ((hs A (i 1) : ℝ) : EReal))
    (hq : ∀ i, q i = ((hss A (i 1) : ℝ) : EReal)) (hg : ∀ i, g i = ((A.gam (i 1) : ℝ) : EReal)) (i : S1x512.Idx) :
    k1_pay2 (F := Ideal) s q g i = ((scl A (i 1) : ℝ) : EReal) := by
  have hm := mean_row s hs' i
  unfold k1_pay2
  rw [mulf_apply, shapeCast_self, hg]
  refine Eq.trans (congrArg _ ?_) (EReal.coe_mul _ _).symm
  refine Eq.trans (congrArg Ideal.rsqrt ?_) (rsqrt_real _ (vr_eps_pos A (i 1)))
  rw [addf_apply, subf_apply, mulf_apply, divf_apply, shapeCast_self, hm, hq]
  refine Eq.trans ?_ (EReal.coe_add _ _).symm
  refine congrArg₂ (· + ·) ?_ lit_eps
  refine Eq.trans ?_ (EReal.coe_sub _ _).symm
  refine congrArg₂ (· - ·) ?_ (EReal.coe_mul _ _).symm
  exact (congrArg (Ideal.div _) lit_rows).trans (div_real _ _ (by norm_num))

/-- The normalization's shift. -/
theorem shift_row (s q g b : S1x512.Idx → EReal) (hs' : ∀ i, s i = ((hs A (i 1) : ℝ) : EReal))
    (hq : ∀ i, q i = ((hss A (i 1) : ℝ) : EReal)) (hg : ∀ i, g i = ((A.gam (i 1) : ℝ) : EReal))
    (hb : ∀ i, b i = ((A.bet (i 1) : ℝ) : EReal)) (i : S1x512.Idx) :
    k1_pay4 (F := Ideal) s q g b i = ((sft A (i 1) : ℝ) : EReal) := by
  unfold k1_pay4
  rw [shapeCast_self, shapeCast_self, subf_apply, mulf_apply, mean_row s hs', scale_row s q g hs' hq hg, hb]
  refine Eq.trans (congrArg _ (EReal.coe_mul _ _).symm) (EReal.coe_sub _ _).symm

/-- The leaky unit of the normalized value. -/
theorem active_blk (h sc sh : ℝ) :
    Scalar.select (FloatOps.cmpf (F := Ideal) (φ := .f32) .oge (((h : ℝ) : EReal) * ((sc : ℝ) : EReal) + ((sh : ℝ) : EReal)) (FloatOps.ofBits .f32 0x00000000#32))
      (((h : ℝ) : EReal) * ((sc : ℝ) : EReal) + ((sh : ℝ) : EReal))
      ((FloatOps.ofBits .f32 0x3C23D70A#32 : Ideal .f32) * (((h : ℝ) : EReal) * ((sc : ℝ) : EReal) + ((sh : ℝ) : EReal)))
      = ((leaky (h * sc + sh) : ℝ) : EReal) := by
  rw [← EReal.coe_mul, ← EReal.coe_add, lit_zero, lit_slope]
  refine (select_iff _ _ (oge_real _ _) _ _).trans ?_
  unfold leaky
  split
  · rfl
  · exact (EReal.coe_mul _ _).symm

/-- The columns from the first one on. -/
theorem slice_cols {α : Type} {M N N' : ℕ} (v : (⟨2, ![M, N]⟩ : Shape).Idx → α) (h : (⟨2, ![M, N]⟩ : Shape).Slices ![0, 0] ⟨2, ![M, N']⟩)
    (i : (⟨2, ![M, N']⟩ : Shape).Idx) (k : (⟨2, ![M, N]⟩ : Shape).Idx) (h0 : (k 0).val = (i 0).val) (h1 : (k 1).val = (i 1).val) :
    extractStridedSlice ⟨2, ![M, N']⟩ ![0, 0] v h i = v k := by
  refine extractStridedSlice_apply _ _ _ _ _ fun a => ?_
  match a with
  | ⟨0, _⟩ => exact h0.trans (Nat.zero_add _).symm
  | ⟨1, _⟩ => exact h1.trans (Nat.zero_add _).symm

/-- A block of embeddings. -/
theorem emb_blk (e : Fin 4096 → Fin 262144) (x : S4096x256.Idx → EReal) (w : S512x256.Idx → EReal) (sc sh : S1x512.Idx → EReal)
    (wp : S256x512.Idx → EReal) (b : S1x128.Idx → EReal)
    (hx : ∀ j, x j = ((A.x (e (j 0)) (j 1) : ℝ) : EReal)) (hw : ∀ i, w i = ((A.w0 (i 0) (i 1) : ℝ) : EReal))
    (hsc : ∀ i, sc i = ((scl A (i 1) : ℝ) : EReal)) (hsh : ∀ i, sh i = ((sft A (i 1) : ℝ) : EReal))
    (hwp : ∀ (i : S256x512.Idx) (h : (i 0).val < 128), wp i = ((A.w1 ⟨(i 0).val, h⟩ (i 1) : ℝ) : EReal))
    (hb : ∀ i, b i = ((A.b1 (i 1) : ℝ) : EReal)) (i : S4096x128.Idx) :
    k1_pay5 (F := Ideal) x w sc sh wp b i = ((emb A (e (i 0)) (i 1) : ℝ) : EReal) := by
  unfold k1_pay5
  rw [addf_apply]
  refine Eq.trans ?_ (EReal.coe_add _ _).symm
  refine congrArg₂ (· + ·) ?_ ?_
  · have h1 : (i 1).val < 128 := (i 1).isLt
    refine (slice_cols _ _ i (ix2 (i 0) (⟨(i 1).val, h1.trans (by decide)⟩ : Fin 256)) rfl rfl).trans ?_
    refine (dot_nt _ _ _ _).trans (sum_eq_real _ _ fun k => ?_)
    rw [shapeCast_self, EReal.coe_mul]
    refine congrArg₂ (· * ·) ?_ (hwp _ h1)
    rw [select_apply, cmpf_apply, mulf_apply, addf_apply, mulf_apply]
    have e1 : matmul (F := Ideal) dot_S4096x256_S512x256_S4096x512_1_1_0_0_n_n none x w (constant S4096x512 .f32 0x00000000#32) (ix2 (i 0) k)
        = ((hid A (e (i 0)) k : ℝ) : EReal) := hidden_blk e x w hx hw (ix2 (i 0) k)
    have e2 : broadcastTo S4096x512 sc broadcasts_S1x512_S4096x512 (ix2 (i 0) k) = ((scl A k : ℝ) : EReal) :=
      (row_bcast _ _ _).trans (hsc _)
    have e3 : broadcastTo S4096x512 sh broadcasts_S1x512_S4096x512 (ix2 (i 0) k) = ((sft A k : ℝ) : EReal) :=
      (row_bcast _ _ _).trans (hsh _)
    exact (congrArg₂ (fun a b => Scalar.select (FloatOps.cmpf (F := Ideal) (φ := .f32) .oge (a + b) (FloatOps.ofBits .f32 0x00000000#32)) (a + b)
      ((FloatOps.ofBits .f32 0x3C23D70A#32 : Ideal .f32) * (a + b))) (congrArg₂ (· * ·) e1 e2) e3).trans (active_blk _ _ _)
  · rw [shapeCast_self]
    exact (row_bcast _ _ _).trans (hb _)

section Run

variable {F : FTy → Type} [FloatOps F]
variable (V : (c : Dev nD) → (b : Ref sig .tc) → Buf (Elt F) ((c : Thread nD τ).loc b)) (c : Dev nD)

theorem index1_0 (t : Fin cfg1.N) : win1_0.index t 0 = t.val ∧ win1_0.index t 1 = 0 := by
  have e0 : (grid1.coords t 0).val = t.val / 1 % 64 := Pipeline.Grid.coords_val t 0 (by decide) rfl
  have ht := lt1 t
  constructor
  · show (BitVec.ofNat 32 (grid1.coords t 0).val).toNat = t.val
    rw [BitVec.toNat_ofNat, e0]; omega
  · rfl

theorem index1_8 (t : Fin cfg1.N) : win1_8.index t 0 = t.val ∧ win1_8.index t 1 = 0 := by
  have e0 : (grid1.coords t 0).val = t.val / 1 % 64 := Pipeline.Grid.coords_val t 0 (by decide) rfl
  have ht := lt1 t
  constructor
  · show (BitVec.ofNat 32 (grid1.coords t 0).val).toNat = t.val
    rw [BitVec.toNat_ofNat, e0]; omega
  · rfl

theorem blk1_0 (t : Fin cfg1.N) (j : S4096x256.Idx) :
    (blk1 V c 0 t : S4096x256.Idx → Elt F .f32) j
      = (V c main_arg0 : S262144x256.Idx → Elt F .f32) (ix2 (at4096 t.val (lt1 t) (j 0)) (j 1)) := by
  refine congrArg (V c main_arg0 : S262144x256.Idx → Elt F .f32) (funext fun a => Fin.ext ?_)
  match a with
  | ⟨0, _⟩ =>
    refine (win1_0.rect_emb_val t j 0).trans ?_
    rw [(index1_0 t).1]; rfl
  | ⟨1, _⟩ => exact win1_0.rect_emb_val_of_index_zero t 1 (index1_0 t).2 j

/-- A window that does not move is its whole array. -/
theorem blk1_1 (t : Fin cfg1.N) : (blk1 V c 1 t : S8x512.Idx → Elt F .f32) = V c main_v0_0 := by
  funext j
  refine congrArg (V c main_v0_0 : S8x512.Idx → Elt F .f32) (funext fun a => Fin.ext ?_)
  match a with
  | ⟨0, _⟩ => exact win1_1.rect_emb_val_of_index_zero t 0 rfl j
  | ⟨1, _⟩ => exact win1_1.rect_emb_val_of_index_zero t 1 rfl j
theorem blk1_2 (t : Fin cfg1.N) : (blk1 V c 2 t : S8x512.Idx → Elt F .f32) = V c main_v0_1 := by
  funext j
  refine congrArg (V c main_v0_1 : S8x512.Idx → Elt F .f32) (funext fun a => Fin.ext ?_)
  match a with
  | ⟨0, _⟩ => exact win1_2.rect_emb_val_of_index_zero t 0 rfl j
  | ⟨1, _⟩ => exact win1_2.rect_emb_val_of_index_zero t 1 rfl j
theorem blk1_3 (t : Fin cfg1.N) : (blk1 V c 3 t : S512x256.Idx → Elt F .f32) = V c main_arg5 := by
  funext j
  refine congrArg (V c main_arg5 : S512x256.Idx → Elt F .f32) (funext fun a => Fin.ext ?_)
  match a with
  | ⟨0, _⟩ => exact win1_3.rect_emb_val_of_index_zero t 0 rfl j
  | ⟨1, _⟩ => exact win1_3.rect_emb_val_of_index_zero t 1 rfl j
theorem blk1_4 (t : Fin cfg1.N) : (blk1 V c 4 t : S1x512.Idx → Elt F .f32) = V c main_v3 := by
  funext j
  refine congrArg (V c main_v3 : S1x512.Idx → Elt F .f32) (funext fun a => Fin.ext ?_)
  match a with
  | ⟨0, _⟩ => exact win1_4.rect_emb_val_of_index_zero t 0 rfl j
  | ⟨1, _⟩ => exact win1_4.rect_emb_val_of_index_zero t 1 rfl j
theorem blk1_5 (t : Fin cfg1.N) : (blk1 V c 5 t : S1x512.Idx → Elt F .f32) = V c main_v4 := by
  funext j
  refine congrArg (V c main_v4 : S1x512.Idx → Elt F .f32) (funext fun a => Fin.ext ?_)
  match a with
  | ⟨0, _⟩ => exact win1_5.rect_emb_val_of_index_zero t 0 rfl j
  | ⟨1, _⟩ => exact win1_5.rect_emb_val_of_index_zero t 1 rfl j
theorem blk1_6 (t : Fin cfg1.N) : (blk1 V c 6 t : S256x512.Idx → Elt F .f32) = V c main_v2 := by
  funext j
  refine congrArg (V c main_v2 : S256x512.Idx → Elt F .f32) (funext fun a => Fin.ext ?_)
  match a with
  | ⟨0, _⟩ => exact win1_6.rect_emb_val_of_index_zero t 0 rfl j
  | ⟨1, _⟩ => exact win1_6.rect_emb_val_of_index_zero t 1 rfl j
theorem blk1_7 (t : Fin cfg1.N) : (blk1 V c 7 t : S1x128.Idx → Elt F .f32) = V c main_v5 := by
  funext j
  refine congrArg (V c main_v5 : S1x128.Idx → Elt F .f32) (funext fun a => Fin.ext ?_)
  match a with
  | ⟨0, _⟩ => exact win1_7.rect_emb_val_of_index_zero t 0 rfl j
  | ⟨1, _⟩ => exact win1_7.rect_emb_val_of_index_zero t 1 rfl j

/-- The blocks of embeddings fill the result array. -/
theorem out1_8 (G : S262144x128.Idx → Elt F .f32)
    (h : ∀ (t : Fin cfg1.N) (j : S4096x128.Idx), emb1 V c t j = G (ix2 (at4096 t.val (lt1 t) (j 0)) (j 1))) :
    ((dat1 V c).arrAt 8 cfg1.N : S262144x128.Idx → Elt F .f32) = G := by
  refine (dat1 V c).arrAt_eq_of_cover 8 G (fun t hf => ?_) fun i => ?_
  · funext j
    refine (congrFun (after1_8 V c t) j).trans ((h t j).trans (congrArg G (funext fun a => Fin.ext ?_)))
    match a with
    | ⟨0, _⟩ =>
      refine ((win1_8.rect_emb_val t j 0).trans ?_).symm
      rw [(index1_8 t).1]; rfl
    | ⟨1, _⟩ => exact (win1_8.rect_emb_val_of_index_zero t 1 (index1_8 t).2 j).symm
  · have h0 : (i 0).val < 262144 := (i 0).isLt
    have h1 : (i 1).val < 128 := (i 1).isLt
    have hN : cfg1.N = 64 := N_1
    refine ⟨⟨(i 0).val / 4096, by omega⟩, flush1_8 _, ?_⟩
    generalize ht : (⟨(i 0).val / 4096, by omega⟩ : Fin cfg1.N) = t
    have hv : t.val = (i 0).val / 4096 := by rw [← ht]
    show i ∈ ((View.whole main_v6).slice (win1_8.rect t)).set
    rw [View.set_slice_whole, Rect.mem_set_unit]
    intro a
    match a with
    | ⟨0, _⟩ =>
      show win1_8.index t 0 * 4096 ≤ (i 0).val ∧ (i 0).val < win1_8.index t 0 * 4096 + 4096
      rw [(index1_8 t).1]; omega
    | ⟨1, _⟩ =>
      show win1_8.index t 1 * 128 ≤ (i 1).val ∧ (i 1).val < win1_8.index t 1 * 128 + 128
      rw [(index1_8 t).2]; omega

end Run

section RealRun

variable (V : (c : Dev nD) → (b : Ref sig .tc) → Buf (Elt Ideal) ((c : Thread nD τ).loc b)) (c : Dev nD)

/-- The result: every row's embedding. -/
theorem embeds (hx : ∀ i, (V c main_arg0 : S262144x256.Idx → EReal) i = ((A.x (i 0) (i 1) : ℝ) : EReal))
    (hw : ∀ i, (V c main_arg5 : S512x256.Idx → EReal) i = ((A.w0 (i 0) (i 1) : ℝ) : EReal))
    (h0 : ∀ i, (V c main_v0_0 : S8x512.Idx → EReal) i = ((hs A (i 1) : ℝ) : EReal))
    (h1 : ∀ i, (V c main_v0_1 : S8x512.Idx → EReal) i = ((hss A (i 1) : ℝ) : EReal))
    (hg : ∀ i, (V c main_v3 : S1x512.Idx → EReal) i = ((A.gam (i 1) : ℝ) : EReal))
    (hb : ∀ i, (V c main_v4 : S1x512.Idx → EReal) i = ((A.bet (i 1) : ℝ) : EReal))
    (hwp : ∀ (i : S256x512.Idx) (h : (i 0).val < 128), (V c main_v2 : S256x512.Idx → EReal) i = ((A.w1 ⟨(i 0).val, h⟩ (i 1) : ℝ) : EReal))
    (hb1 : ∀ i, (V c main_v5 : S1x128.Idx → EReal) i = ((A.b1 (i 1) : ℝ) : EReal)) :
    ((dat1 V c).arrAt 8 cfg1.N : S262144x128.Idx → EReal) = fun i => ((emb A (i 0) (i 1) : ℝ) : EReal) := by
  have hs' : ∀ j, (part rowHs (blk1 V c 1 start1 : S8x512.Idx → EReal) : S1x512.Idx → EReal) j = ((hs A (j 1) : ℝ) : EReal) := fun j => by
    refine ((congrFun (blk1_1 V c start1) _).trans (h0 _)).trans (congrArg (fun k => ((hs A k : ℝ) : EReal)) (Fin.ext ?_))
    show 0 + 1 * (j 1).val = (j 1).val
    omega
  have hq' : ∀ j, (part rowHs (blk1 V c 2 start1 : S8x512.Idx → EReal) : S1x512.Idx → EReal) j = ((hss A (j 1) : ℝ) : EReal) := fun j => by
    refine ((congrFun (blk1_2 V c start1) _).trans (h1 _)).trans (congrArg (fun k => ((hss A k : ℝ) : EReal)) (Fin.ext ?_))
    show 0 + 1 * (j 1).val = (j 1).val
    omega
  have hg' : ∀ j, (blk1 V c 4 start1 : S1x512.Idx → EReal) j = ((A.gam (j 1) : ℝ) : EReal) :=
    fun j => (congrFun (blk1_4 V c start1) j).trans (hg j)
  have hb' : ∀ j, (blk1 V c 5 start1 : S1x512.Idx → EReal) j = ((A.bet (j 1) : ℝ) : EReal) :=
    fun j => (congrFun (blk1_5 V c start1) j).trans (hb j)
  have hsc : ∀ j, (scale1 V c : S1x512.Idx → EReal) j = ((scl A (j 1) : ℝ) : EReal) := fun j => by
    refine Eq.trans ?_ (scale_row _ _ _ hs' hq' hg' j)
    show k1_pay3 _ _ _ j = _
    unfold k1_pay3
    dsimp only
    rw [shapeCast_self]
  have hsh : ∀ j, (shift1 V c : S1x512.Idx → EReal) j = ((sft A (j 1) : ℝ) : EReal) :=
    fun j => shift_row _ _ _ _ hs' hq' hg' hb' j
  refine out1_8 V c _ fun t j => ?_
  exact emb_blk (at4096 t.val (lt1 t)) _ _ _ _ _ _ (fun j => (blk1_0 V c t j).trans (hx _))
    (fun j => (congrFun (blk1_3 V c t) j).trans (hw _)) hsc hsh (fun j h => (congrFun (blk1_6 V c t) j).trans (hwp j h))
    (fun j => (congrFun (blk1_7 V c t) j).trans (hb1 j)) j

end RealRun

end Cert.KernelIdeal.Real
-- ==== Proof.Value.Host.lean ====
/-
  The host operations between the launches: what the arrays they write hold, read at an index.
-/
module

public import proofs.«01_k».proof.Proof.Run
public import proofs.«01_k».proof.Proof.Value.Reading

@[expose] public section

noncomputable section

namespace Cert.KernelIdeal.Real

open Cert.KernelIdeal.Gen Cert.KernelIdeal.Net Cert.Reading
open Idealize.ShloMosaic Idealize.ShloMosaic.TcCoe Idealize.ShloMosaic.ValueIdx
open Idealize.ShloMosaic.Tactic Idealize.ShloMosaic.StableHlo

variable {F : FTy → Type} [FloatOps F] (V : Valuation τ sig (Elt F))

/-- The normalization's factors, as a row. -/
theorem host_v3 (i : S1x512.Idx) :
    (after hostOps1 V (Proc.devRef .tc main_v3) : S1x512.Idx → Elt F .f32) i
      = (V (Proc.devRef .tc main_arg7) : S512.Idx → Elt F .f32) (ix1 (i 1)) := by
  have e : (after hostOps1 V (Proc.devRef .tc main_v3) : S1x512.Idx → Elt F .f32)
      = shapeCast S1x512 (V (Proc.devRef .tc main_arg7) : S512.Idx → Elt F .f32) shapeCasts_S512_S1x512 := by
    after_results_simp; rfl
  rw [e]; exact as_row _ _ _

theorem host_v4 (i : S1x512.Idx) :
    (after hostOps1 V (Proc.devRef .tc main_v4) : S1x512.Idx → Elt F .f32) i
      = (V (Proc.devRef .tc main_arg8) : S512.Idx → Elt F .f32) (ix1 (i 1)) := by
  have e : (after hostOps1 V (Proc.devRef .tc main_v4) : S1x512.Idx → Elt F .f32)
      = shapeCast S1x512 (V (Proc.devRef .tc main_arg8) : S512.Idx → Elt F .f32) shapeCasts_S512_S1x512 := by
    after_results_simp; rfl
  rw [e]; exact as_row _ _ _

theorem host_v5 (i : S1x128.Idx) :
    (after hostOps1 V (Proc.devRef .tc main_v5) : S1x128.Idx → Elt F .f32) i
      = (V (Proc.devRef .tc main_arg10) : S128.Idx → Elt F .f32) (ix1 (i 1)) := by
  have e : (after hostOps1 V (Proc.devRef .tc main_v5) : S1x128.Idx → Elt F .f32)
      = shapeCast S1x128 (V (Proc.devRef .tc main_arg10) : S128.Idx → Elt F .f32) shapeCasts_S128_S1x128 := by
    after_results_simp; rfl
  rw [e]; exact as_row _ _ _

/-- The second layer's weights, in the first half of the padded array. -/
theorem host_v2 (i : S256x512.Idx) (h : (i 0).val < 128) :
    (after hostOps1 V (Proc.devRef .tc main_v2) : S256x512.Idx → Elt F .f32) i
      = (V (Proc.devRef .tc main_arg9) : S128x512.Idx → Elt F .f32) (ix2 ⟨(i 0).val, h⟩ (i 1)) := by
  have e : (after hostOps1 V (Proc.devRef .tc main_v2) : S256x512.Idx → Elt F .f32)
      = concatenate S256x512 0 [⟨S128x512, (V (Proc.devRef .tc main_arg9) : S128x512.Idx → Elt F .f32)⟩,
        ⟨S128x512, broadcastInDim S128x512 ![] bcast_S_S128x512 (constant S_ .f32 0x00000000#32)⟩] concatenates_S128x512_S128x512_S256x512_d0 := by
    after_results_simp; rfl
  rw [e]
  refine concatenate_pair_apply_left (t := S256x512) (s₁ := S128x512) (s₂ := S128x512) 0 _ _ _ i rfl _ fun a => ?_
  match a with
  | ⟨0, _⟩ => rfl
  | ⟨1, _⟩ => rfl

/-- The class and the attention unit of a column of the attention layer's laid-out weights. -/
def clsOf (q : Fin 4096) : Fin 32 := ⟨q.val % 32, Nat.mod_lt _ (by decide)⟩
def unitOf (q : Fin 4096) : Fin 128 := ⟨q.val / 32, by omega⟩

/-- Training row `r` of block `t` of 2048 rows. -/
def at2048 (t : ℕ) (ht : t < 64) (r : Fin 2048) : Fin 131072 := ⟨t * 2048 + r.val, by omega⟩

/-- The labels of the training rows, in blocks of 2048. -/
theorem host_v9 (i : S64x1x2048.Idx) :
    (after hostOps2 V (Proc.devRef .tc main_v9) : S64x1x2048.Idx → Elt F .i32) i
      = (V (Proc.devRef .tc main_arg1) : S262144x1.Idx → Elt F .i32)
        (ix2 ⟨(at2048 (i 0).val (i 0).isLt (i 2)).val, (at2048 (i 0).val (i 0).isLt (i 2)).isLt.trans (by decide)⟩ (0 : Fin 1)) := by
  have e : (after hostOps2 V (Proc.devRef .tc main_v9) : S64x1x2048.Idx → Elt F .i32)
      = shapeCast S64x1x2048 (shapeCast S131072 (extractStridedSlice S131072x1 ![0, 0]
          (V (Proc.devRef .tc main_arg1) : S262144x1.Idx → Elt F .i32) slices_S262144x1_S131072x1_0_0) shapeCasts_S131072x1_S131072)
          shapeCasts_S131072_S64x1x2048 := by
    after_results_simp; rfl
  rw [e]
  have h1 : (i 1).val = 0 := by have : (i 1).val < 1 := (i 1).isLt; omega
  refine (shapeCast_apply _ _ i (ix1 (at2048 (i 0).val (i 0).isLt (i 2))) ?_).trans ?_
  · rw [Shape.rowMajor_val_one, Shape.rowMajor_val_three]
    show (i 0).val * 2048 + (i 2).val = ((i 0).val * 1 + (i 1).val) * 2048 + (i 2).val
    omega
  refine (shapeCast_apply _ _ _ (ix2 (at2048 (i 0).val (i 0).isLt (i 2)) (0 : Fin 1)) ?_).trans ?_
  · rw [Shape.rowMajor_val_one, Shape.rowMajor_val_two]
    show (at2048 (i 0).val (i 0).isLt (i 2)).val * 1 + 0 = (at2048 (i 0).val (i 0).isLt (i 2)).val
    omega
  refine extractStridedSlice_apply _ _ _ _ _ fun a => ?_
  match a with
  | ⟨0, _⟩ => exact (Nat.zero_add _).symm
  | ⟨1, _⟩ => rfl

/-- A table of classes by units, laid out in one row. -/
theorem table_row (x : S32x128.Idx → Elt F .f32) (i : S1x4096.Idx) :
    shapeCast S1x4096 (transpose S128x32 [1, 0] x transposes_S32x128_S128x32_1_0) shapeCasts_S128x32_S1x4096 i
      = x (ix2 (clsOf (i 1)) (unitOf (i 1))) := by
  have h1 : (i 0).val = 0 := by have : (i 0).val < 1 := (i 0).isLt; omega
  refine (shapeCast_apply _ _ i (ix2 (unitOf (i 1)) (clsOf (i 1))) ?_).trans ?_
  · rw [Shape.rowMajor_val_two, Shape.rowMajor_val_two]
    show (i 1).val / 32 * 32 + (i 1).val % 32 = (i 0).val * 4096 + (i 1).val
    omega
  refine transpose_apply _ _ _ _ _ fun b => ?_
  match b with
  | ⟨0, _⟩ => rfl
  | ⟨1, _⟩ => rfl

theorem host_v14 (i : S1x4096.Idx) :
    (after hostOps2 V (Proc.devRef .tc main_v14) : S1x4096.Idx → Elt F .f32) i
      = (V (Proc.devRef .tc main_arg12) : S32x128.Idx → Elt F .f32) (ix2 (clsOf (i 1)) (unitOf (i 1))) := by
  have e : (after hostOps2 V (Proc.devRef .tc main_v14) : S1x4096.Idx → Elt F .f32)
      = shapeCast S1x4096 (transpose S128x32 [1, 0] (V (Proc.devRef .tc main_arg12) : S32x128.Idx → Elt F .f32)
        transposes_S32x128_S128x32_1_0) shapeCasts_S128x32_S1x4096 := by
    after_results_simp; rfl
  rw [e]; exact table_row _ _

theorem host_v16 (i : S1x4096.Idx) :
    (after hostOps2 V (Proc.devRef .tc main_v16) : S1x4096.Idx → Elt F .f32) i
      = (V (Proc.devRef .tc main_arg13) : S32x128.Idx → Elt F .f32) (ix2 (clsOf (i 1)) (unitOf (i 1))) := by
  have e : (after hostOps2 V (Proc.devRef .tc main_v16) : S1x4096.Idx → Elt F .f32)
      = shapeCast S1x4096 (transpose S128x32 [1, 0] (V (Proc.devRef .tc main_arg13) : S32x128.Idx → Elt F .f32)
        transposes_S32x128_S128x32_1_0) shapeCasts_S128x32_S1x4096 := by
    after_results_simp; rfl
  rw [e]; exact table_row _ _

/-- The attention layer's first weights, a column to each unit of each class. -/
theorem host_v12 (i : S128x4096.Idx) :
    (after hostOps2 V (Proc.devRef .tc main_v12) : S128x4096.Idx → Elt F .f32) i
      = (V (Proc.devRef .tc main_arg11) : S32x128x128.Idx → Elt F .f32) (ix3 (clsOf (i 1)) (unitOf (i 1)) (i 0)) := by
  have e : (after hostOps2 V (Proc.devRef .tc main_v12) : S128x4096.Idx → Elt F .f32)
      = transpose S128x4096 [1, 0] (shapeCast S4096x128 (transpose S128x32x128 [1, 0, 2]
          (V (Proc.devRef .tc main_arg11) : S32x128x128.Idx → Elt F .f32) transposes_S32x128x128_S128x32x128_1_0_2)
          shapeCasts_S128x32x128_S4096x128) transposes_S4096x128_S128x4096_1_0 := by
    after_results_simp; rfl
  rw [e]
  obtain ⟨k, q, rfl⟩ : ∃ (k : Fin 128) (q : Fin 4096), i = ix2 k q := ⟨i 0, i 1, eq_ix2 i⟩
  refine (transpose_apply _ _ _ _ (ix2 q k) fun b => ?_).trans ?_
  · match b with
    | ⟨0, _⟩ => rfl
    | ⟨1, _⟩ => rfl
  refine (shapeCast_apply _ _ _ (ix3 (unitOf q) (clsOf q) k) ?_).trans ?_
  · rw [Shape.rowMajor_val_three, Shape.rowMajor_val_two]
    show (q.val / 32 * 32 + q.val % 32) * 128 + k.val = q.val * 128 + k.val
    omega
  refine transpose_apply _ _ _ _ _ fun b => ?_
  match b with
  | ⟨0, _⟩ => rfl
  | ⟨1, _⟩ => rfl
  | ⟨2, _⟩ => rfl

/-- The second result is the first element of the last launch's second array. -/
theorem host_v20 (i : S_.Idx) :
    (after hostOps4 V (Proc.devRef .tc main_v20) : S_.Idx → Elt F .f32) i
      = (V (Proc.devRef .tc main_v18_1) : S8x128.Idx → Elt F .f32) (ix2 (0 : Fin 8) (0 : Fin 128)) := by
  have e : (after hostOps4 V (Proc.devRef .tc main_v20) : S_.Idx → Elt F .f32)
      = shapeCast S_ (extractStridedSlice S1x1 ![0, 0] (V (Proc.devRef .tc main_v18_1) : S8x128.Idx → Elt F .f32)
          slices_S8x128_S1x1_0_0) shapeCasts_S1x1_S_ := by
    after_results_simp; rfl
  rw [e]
  have hc : ∀ k : S1x1.Idx, extractStridedSlice S1x1 ![0, 0] (V (Proc.devRef .tc main_v18_1) : S8x128.Idx → Elt F .f32)
      slices_S8x128_S1x1_0_0 k = (V (Proc.devRef .tc main_v18_1) : S8x128.Idx → Elt F .f32) (ix2 (0 : Fin 8) (0 : Fin 128)) := fun k => by
    refine extractStridedSlice_apply _ _ _ _ _ fun a => ?_
    have h0 : (k 0).val < 1 := (k 0).isLt
    have h1 : (k 1).val < 1 := (k 1).isLt
    match a with
    | ⟨0, _⟩ => show 0 = 0 + (k 0).val; omega
    | ⟨1, _⟩ => show 0 = 0 + (k 1).val; omega
  exact hc _

end Cert.KernelIdeal.Real
-- ==== Proof.Value.KScores.lean ====
/-
  The scores of a block of training rows over the reals. The stacked attention weights hold unit `d` of class `c` in
  column `32 * d + c`; eight groups of 512 columns are folded onto 128 lanes and added, and three rotations of the lanes
  complete the sum over the units of a class.
-/
module

public import proofs.«01_k».proof.Proof.Attend
public import proofs.«01_k».proof.Proof.Value.Spec
public import proofs.«01_k».proof.Proof.Value.Reading
public import proofs.«01_k».proof.Proof.Value.Host

@[expose] public section

noncomputable section

namespace Cert.KernelIdeal.Real

open Cert.KernelIdeal.Gen Cert.KernelIdeal.Net Cert.Spec Cert.Law Cert.Reading
open Idealize.ShloMosaic Idealize.ShloMosaic.TcCoe Idealize.ShloMosaic.ValueIdx
open scoped BigOperators

section Shapes

variable {F : FTy → Type} [FloatOps F]

/-- The hidden values of a group of columns times the second layer's weights, from the first layer's products. -/
def groupVals (x : FVec F S2048x512 .f32) (b v : Vec F S1x512 .f32) : FVec F S2048x512 .f32 :=
  mulf (tanh (addf x (broadcastTo S2048x512 (shapeCast S1x512 b shapeCasts_S1x512_S1x512) broadcasts_S1x512_S2048x512)))
    (broadcastTo S2048x512 (shapeCast S1x512 v shapeCasts_S1x512_S1x512) broadcasts_S1x512_S2048x512)

/-- The two halves of 512 columns added. -/
def half (p : FVec F S2048x512 .f32) : FVec F S2048x256 .f32 :=
  addf (extractStridedSlice S2048x256 ![0, 0] p slices_S2048x512_o0_0_S2048x256)
    (extractStridedSlice S2048x256 ![0, 256] p slices_S2048x512_o0_256_S2048x256)

/-- Four quarters of 512 columns added onto 128 lanes. -/
def lanes (p : FVec F S2048x512 .f32) : FVec F S2048x128 .f32 :=
  addf (extractStridedSlice S2048x128 ![0, 0] (half p) slices_S2048x256_o0_0_S2048x128)
    (extractStridedSlice S2048x128 ![0, 128] (half p) slices_S2048x256_o0_128_S2048x128)

/-- One group's contribution to the lanes. -/
def group (e : Vec F S2048x128 .f32) (w : Vec F S128x4096 .f32) (b v : Vec F S1x4096 .f32) (k : Fin 8) : FVec F S2048x128 .f32 :=
  lanes (groupVals (k2_pay17 (k2_pay11 e) (part (wBox k) w)) (part (rBox k) b) (part (rBox k) v))

/-- All groups' contributions. -/
def allGroups (e : Vec F S2048x128 .f32) (w : Vec F S128x4096 .f32) (b v : Vec F S1x4096 .f32) : FVec F S2048x128 .f32 :=
  addf (addf (addf (addf (addf (addf (addf (group e w b v 0) (group e w b v 1)) (group e w b v 2)) (group e w b v 3))
    (group e w b v 4)) (group e w b v 5)) (group e w b v 6)) (group e w b v 7)

/-- The block's scores are the lanes and their three rotations added, masked by membership. -/
theorem scores_eq (e : Vec F S2048x128 .f32) (lab : Vec F S1x1x2048 .i32) (w : Vec F S128x4096 .f32) (b v : Vec F S1x4096 .f32) :
    scores e lab w b v = select (member (F := F) lab)
      (addf (addf (addf (allGroups e w b v) (dynamicRotate 1 32#32 none (allGroups e w b v) rotates_S2048x128_d1))
        (dynamicRotate 1 64#32 none (allGroups e w b v) rotates_S2048x128_d1))
        (dynamicRotate 1 96#32 none (allGroups e w b v) rotates_S2048x128_d1))
      (broadcast S2048x128 (Scalar.ofBits .f32 0xF149F2CA#32)) := rfl

end Shapes

/-- The columns from the `o`-th on. -/
theorem slice_from {α : Type} {M N N' o : ℕ} (v : (⟨2, ![M, N]⟩ : Shape).Idx → α) (h : (⟨2, ![M, N]⟩ : Shape).Slices ![0, o] ⟨2, ![M, N']⟩)
    (i : (⟨2, ![M, N']⟩ : Shape).Idx) (k : (⟨2, ![M, N]⟩ : Shape).Idx) (h0 : (k 0).val = (i 0).val) (h1 : (k 1).val = o + (i 1).val) :
    extractStridedSlice ⟨2, ![M, N']⟩ ![0, o] v h i = v k := by
  refine extractStridedSlice_apply _ _ _ _ _ fun a => ?_
  match a with
  | ⟨0, _⟩ => exact h0.trans (Nat.zero_add _).symm
  | ⟨1, _⟩ => exact h1

/-- A row of 512 columns folded onto 128 lanes. -/
theorem lanes_real (p : S2048x512.Idx → EReal) (f : ℕ → ℝ) (r : Fin 2048) (hp : ∀ l : Fin 512, p (ix2 r l) = ((f l.val : ℝ) : EReal))
    (l : Fin 128) :
    lanes (F := Ideal) p (ix2 r l)
      = (((f l.val + f (l.val + 256)) + (f (l.val + 128) + f (l.val + 384)) : ℝ) : EReal) := by
  have hh : ∀ k : Fin 256, half (F := Ideal) p (ix2 r k) = ((f k.val + f (k.val + 256) : ℝ) : EReal) := fun k => by
    refine Eq.trans (congrArg₂ (· + ·) ?_ ?_) (EReal.coe_add _ _).symm
    · exact (slice_from (o := 0) p _ (ix2 r k) (ix2 r (⟨k.val, by have := k.isLt; omega⟩ : Fin 512)) rfl (Nat.zero_add _).symm).trans (hp _)
    · exact (slice_from (o := 256) p _ (ix2 r k) (ix2 r (⟨k.val + 256, by have := k.isLt; omega⟩ : Fin 512)) rfl (Nat.add_comm _ _)).trans (hp _)
  refine Eq.trans (congrArg₂ (· + ·) ?_ ?_) (EReal.coe_add _ _).symm
  · exact (slice_from (o := 0) (half (F := Ideal) p) _ (ix2 r l) (ix2 r (⟨l.val, by have := l.isLt; omega⟩ : Fin 256)) rfl (Nat.zero_add _).symm).trans (hh _)
  · refine (slice_from (o := 128) (half (F := Ideal) p) _ (ix2 r l) (ix2 r (⟨l.val + 128, by have := l.isLt; omega⟩ : Fin 256)) rfl (Nat.add_comm _ _)).trans ((hh _).trans ?_)
    rfl

/-- What group `k` of the columns adds to lane `l`. -/
def fold4 (h : ℕ → ℝ) (k l : ℕ) : ℝ :=
  (h (512 * k + l) + h (512 * k + (l + 256))) + (h (512 * k + (l + 128)) + h (512 * k + (l + 384)))

/-- What all groups add to lane `l`. -/
def fold32 (h : ℕ → ℝ) (l : ℕ) : ℝ :=
  fold4 h 0 l + fold4 h 1 l + fold4 h 2 l + fold4 h 3 l + fold4 h 4 l + fold4 h 5 l + fold4 h 6 l + fold4 h 7 l

/-- The columns of one class in order. -/
theorem fold4_class (h : ℕ → ℝ) (k c a : ℕ) :
    fold4 h k (c + 32 * a) = (h (32 * (16 * k + a) + c) + h (32 * (16 * k + 8 + a) + c))
      + (h (32 * (16 * k + 4 + a) + c) + h (32 * (16 * k + 12 + a) + c)) := by
  unfold fold4
  exact congrArg₂ (· + ·) (congrArg₂ (· + ·) (congrArg h (by omega)) (congrArg h (by omega)))
    (congrArg₂ (· + ·) (congrArg h (by omega)) (congrArg h (by omega)))

/-- A lane and its three rotations hold the columns of one class, each once. -/
theorem regroup (h : ℕ → ℝ) (c : ℕ) :
    ((fold32 h (c + 32 * 0) + fold32 h (c + 32 * 3)) + fold32 h (c + 32 * 2)) + fold32 h (c + 32 * 1)
      = ∑ d : Fin 128, h (32 * d.val + c) := by
  rw [Fin.sum_univ_eq_sum_range (fun d => h (32 * d + c)) 128]
  unfold fold32
  simp only [fold4_class]
  generalize hg : (fun d => h (32 * d + c)) = g
  have e : ∀ d, h (32 * d + c) = g d := fun d => congrFun hg d
  simp only [e, Finset.sum_range_succ, Finset.sum_range_zero]
  norm_num only
  ring

/-- A rotation of the lanes read at a lane. -/
theorem rotated {α : Type} (s : BitVec 32) (n : ℕ) (hs : s.toNat = n) (hn : n < 128) (x : S2048x128.Idx → α)
    (r : Fin 2048) (l m : Fin 128) (hm : m.val = (l.val + 128 - n) % 128) :
    dynamicRotate 1 s none x rotates_S2048x128_d1 (ix2 r l) = x (ix2 r m) := by
  unfold dynamicRotate
  refine congrArg x (funext fun b => ?_)
  match b with
  | ⟨0, _⟩ => exact Fin.ext (by rfl)
  | ⟨1, _⟩ =>
    refine Fin.ext ?_
    show (l.val + 128 - (s.toNat + 0) % 128) % 128 = m.val
    rw [hm, hs]
    show (l.val + 128 - n % 128) % 128 = _
    rw [Nat.mod_eq_of_lt hn]

variable {A : Net}

/-- Column `q`'s hidden value of training row `ρ` times the second layer's weight. -/
def col (A : Net) (ρ : Fin 131072) (q : ℕ) : ℝ :=
  if hq : q < 4096 then unit A ρ (clsOf ⟨q, hq⟩) (unitOf ⟨q, hq⟩) * A.v (clsOf ⟨q, hq⟩) (unitOf ⟨q, hq⟩) else 0

/-- The columns of one class add up to its score. -/
theorem col_sum (ρ : Fin 131072) (c : Fin 32) : ∑ d : Fin 128, col A ρ (32 * d.val + c.val) = score A ρ c := by
  unfold score
  refine Finset.sum_congr rfl fun d _ => ?_
  have hq : 32 * d.val + c.val < 4096 := by omega
  have e1 : clsOf ⟨32 * d.val + c.val, hq⟩ = c := Fin.ext (by show (32 * d.val + c.val) % 32 = c.val; omega)
  have e2 : unitOf ⟨32 * d.val + c.val, hq⟩ = d := Fin.ext (by show (32 * d.val + c.val) / 32 = d.val; omega)
  unfold col
  rw [dif_pos hq, e1, e2]

section Block

variable (ρ : Fin 2048 → Fin 131072) (e : S2048x128.Idx → EReal) (lab : S1x1x2048.Idx → BitVec 32)
  (w : S128x4096.Idx → EReal) (b v : S1x4096.Idx → EReal)

/-- One group's values. -/
theorem groupVals_real (he : ∀ i, e i = ((emb A (row (ρ (i 0))) (i 1) : ℝ) : EReal))
    (hw : ∀ i, w i = A.aw (clsOf (i 1)) (unitOf (i 1)) (i 0)) (hb : ∀ i, b i = A.ab (clsOf (i 1)) (unitOf (i 1)))
    (hv : ∀ i, v i = ((A.v (clsOf (i 1)) (unitOf (i 1)) : ℝ) : EReal)) (k : Fin 8) (r : Fin 2048) (l : Fin 512) :
    groupVals (F := Ideal) (k2_pay17 (k2_pay11 e) (part (wBox k) w)) (part (rBox k) b) (part (rBox k) v) (ix2 r l)
      = ((col A (ρ r) (512 * k.val + l.val) : ℝ) : EReal) := by
  have hq : 512 * k.val + l.val < 4096 := by omega
  have hq' : ∀ q : Fin 4096, q.val = 512 * k.val + 1 * l.val → q = ⟨512 * k.val + l.val, hq⟩ := fun q h => Fin.ext (by rw [h, one_mul])
  unfold col
  rw [dif_pos hq]
  have hv' : broadcastTo S2048x512 (shapeCast S1x512 (part (F := Ideal) (e := .f32) (rBox k) v) shapeCasts_S1x512_S1x512)
      broadcasts_S1x512_S2048x512 (ix2 r l) = ((A.v (clsOf ⟨512 * k.val + l.val, hq⟩) (unitOf ⟨512 * k.val + l.val, hq⟩) : ℝ) : EReal) := by
    refine (row_bcast _ _ _).trans ((congrFun (shapeCast_self (part (F := Ideal) (e := .f32) (rBox k) v) shapeCasts_S1x512_S1x512) _).trans ?_)
    refine (hv _).trans ?_
    exact congrArg (fun q => ((A.v (clsOf q) (unitOf q) : ℝ) : EReal)) (hq' _ rfl)
  have hb' : broadcastTo S2048x512 (shapeCast S1x512 (part (F := Ideal) (e := .f32) (rBox k) b) shapeCasts_S1x512_S1x512)
      broadcasts_S1x512_S2048x512 (ix2 r l) = A.ab (clsOf ⟨512 * k.val + l.val, hq⟩) (unitOf ⟨512 * k.val + l.val, hq⟩) := by
    refine (row_bcast _ _ _).trans ((congrFun (shapeCast_self (part (F := Ideal) (e := .f32) (rBox k) b) shapeCasts_S1x512_S1x512) _).trans ?_)
    refine (hb _).trans ?_
    exact congrArg (fun q => A.ab (clsOf q) (unitOf q)) (hq' _ rfl)
  have hx : k2_pay17 (F := Ideal) (k2_pay11 e) (part (wBox k) w) (ix2 r l)
      = ∑ j, ((emb A (row (ρ r)) j : ℝ) : EReal) * A.aw (clsOf ⟨512 * k.val + l.val, hq⟩) (unitOf ⟨512 * k.val + l.val, hq⟩) j := by
    refine (dot_nn none _ _ _).trans (Finset.sum_congr rfl fun j _ => ?_)
    unfold k2_pay11
    rw [shapeCast_self, shapeCast_self]
    refine congrArg₂ (· * ·) (he _) ((hw _).trans ?_)
    refine congrArg₂ (fun q j => A.aw (clsOf q) (unitOf q) j) (hq' _ rfl) (Fin.ext ?_)
    show 0 + 1 * j.val = j.val
    omega
  refine Eq.trans (congrArg₂ (· * ·) ((congrArg Ideal.tanh (congrArg₂ (· + ·) hx hb')).trans (tanh_real _)) hv') ?_
  exact (EReal.coe_mul _ _).symm

/-- All groups' contributions to a lane. -/
theorem allGroups_real (he : ∀ i, e i = ((emb A (row (ρ (i 0))) (i 1) : ℝ) : EReal))
    (hw : ∀ i, w i = A.aw (clsOf (i 1)) (unitOf (i 1)) (i 0)) (hb : ∀ i, b i = A.ab (clsOf (i 1)) (unitOf (i 1)))
    (hv : ∀ i, v i = ((A.v (clsOf (i 1)) (unitOf (i 1)) : ℝ) : EReal)) (r : Fin 2048) (l : Fin 128) :
    allGroups (F := Ideal) e w b v (ix2 r l) = ((fold32 (col A (ρ r)) l.val : ℝ) : EReal) := by
  have g : ∀ k : Fin 8, group (F := Ideal) e w b v k (ix2 r l) = ((fold4 (col A (ρ r)) k.val l.val : ℝ) : EReal) := fun k =>
    lanes_real _ (fun l => col A (ρ r) (512 * k.val + l)) r (fun l => groupVals_real ρ e w b v he hw hb hv k r l) l
  unfold allGroups fold32
  simp only [addf_apply, EReal.coe_add]
  refine congrArg₂ (· + ·) (congrArg₂ (· + ·) (congrArg₂ (· + ·) (congrArg₂ (· + ·) (congrArg₂ (· + ·) (congrArg₂ (· + ·)
    (congrArg₂ (· + ·) (g 0) (g 1)) (g 2)) (g 3)) (g 4)) (g 5)) (g 6)) (g 7)

/-- The lane of a class. -/
def lane (c : Fin 32) : Fin 128 := ⟨c.val, by omega⟩

/-- A row belongs to a class when its label is the class. -/
theorem member_iff (hl : ∀ (r : Fin 2048) (c : Fin 32), A.mem (ρ r) c ↔ lab (ix3 (0 : Fin 1) (0 : Fin 1) r) = BitVec.ofNat 32 c.val)
    (r : Fin 2048) (c : Fin 32) : member (F := Ideal) lab (ix2 r (lane c)) = 1#1 ↔ A.mem (ρ r) c := by
  have e1 : broadcastTo S2048x128 (shapeCast S2048x1 (k2_pay12 (F := Ideal) lab) shapeCasts_S2048_S2048x1)
      broadcasts_S2048x1_S2048x128 (ix2 r (lane c)) = lab (ix3 (0 : Fin 1) (0 : Fin 1) r) := by
    refine (col_bcast _ _ _).trans ((as_col _ _ _).trans ?_)
    unfold k2_pay12
    refine shapeCast_apply _ _ _ _ ?_
    rw [Shape.rowMajor_val_one, Shape.rowMajor_val_three]
    show (0 * 1 + 0) * 2048 + r.val = r.val
    omega
  have e2 : iota .tc S2048x128 32 [1] iota_S2048x128_d1_w32 (ix2 r (lane c)) = BitVec.ofNat 32 c.val := by
    show BitVec.ofNat 32 (0 * 128 + c.val) = _
    rw [Nat.zero_mul, Nat.zero_add]
  rw [hl]
  show IntOp.cmpi .eq _ _ = 1#1 ↔ _
  rw [IntOp.cmpi_eq]
  exact Iff.of_eq (congrArg₂ (· = ·) e1 e2)

open Classical in
/-- The masked score of a row for a class. -/
def masked (A : Net) (ρ : Fin 131072) (c : Fin 32) : ℝ := if A.mem ρ c then score A ρ c else low

/-- The block's scores. -/
theorem scores_real (he : ∀ i, e i = ((emb A (row (ρ (i 0))) (i 1) : ℝ) : EReal))
    (hl : ∀ (r : Fin 2048) (c : Fin 32), A.mem (ρ r) c ↔ lab (ix3 (0 : Fin 1) (0 : Fin 1) r) = BitVec.ofNat 32 c.val)
    (hw : ∀ i, w i = A.aw (clsOf (i 1)) (unitOf (i 1)) (i 0)) (hb : ∀ i, b i = A.ab (clsOf (i 1)) (unitOf (i 1)))
    (hv : ∀ i, v i = ((A.v (clsOf (i 1)) (unitOf (i 1)) : ℝ) : EReal)) (r : Fin 2048) (c : Fin 32) :
    scores (F := Ideal) e lab w b v (ix2 r (lane c)) = ((masked A (ρ r) c : ℝ) : EReal) := by
  classical
  have g := allGroups_real ρ e w b v he hw hb hv r
  rw [scores_eq, select_apply]
  refine (select_iff _ _ (member_iff ρ lab hl r c) _ _).trans ?_
  unfold masked
  by_cases hm : A.mem (ρ r) c
  · rw [if_pos hm, if_pos hm, ← col_sum, ← regroup]
    simp only [EReal.coe_add]
    refine congrArg₂ (· + ·) (congrArg₂ (· + ·) (congrArg₂ (· + ·) (g (lane c)) ?_) ?_) ?_
    · exact (rotated _ 32 rfl (by decide) _ r _ ⟨c.val + 32 * 3, by omega⟩ (by show c.val + 32 * 3 = (c.val + 128 - 32) % 128; omega)).trans (g _)
    · exact (rotated _ 64 rfl (by decide) _ r _ ⟨c.val + 32 * 2, by omega⟩ (by show c.val + 32 * 2 = (c.val + 128 - 64) % 128; omega)).trans (g _)
    · exact (rotated _ 96 rfl (by decide) _ r _ ⟨c.val + 32 * 1, by omega⟩ (by show c.val + 32 * 1 = (c.val + 128 - 96) % 128; omega)).trans (g _)
  · rw [if_neg hm, if_neg hm]
    exact lit_low

end Block

end Cert.KernelIdeal.Real
-- ==== Proof.Value.KPool.lean ====
/-
  The running softmax pooling over the reals: one more block of training rows moves the maximum, the sum of
  exponentials and the weighted sums, and a common factor is all that depends on the maximum.
-/
module

public import proofs.«01_k».proof.Proof.Value.KScores

@[expose] public section

noncomputable section

namespace Cert.KernelIdeal.Real

open Cert.KernelIdeal.Gen Cert.KernelIdeal.Net Cert.Spec Cert.Law Cert.Reading
open Idealize.ShloMosaic Idealize.ShloMosaic.TcCoe Idealize.ShloMosaic.ValueIdx
open scoped BigOperators

variable {A : Net}

/-- The maximum of equal reals over at least one row is that real. -/
theorem fold_max_const {n : ℕ} (hn : 0 < n) (f : Fin n → EReal) (M : ℝ) (h : ∀ i, f i = ((M : ℝ) : EReal)) :
    Finset.fold max (⊥ : EReal) f Finset.univ = ((M : ℝ) : EReal) := by
  refine le_antisymm ?_ ?_
  · exact (Finset.fold_max_le _).mpr ⟨bot_le, fun i _ => (h i).le⟩
  · exact (h ⟨0, hn⟩).ge.trans (le_fold_max _ f ⊥ _ (Finset.mem_univ _))

section Step

variable (c : Fin 32) (ρ : Fin 2048 → Fin 131072) (s : S2048x128.Idx → EReal) (mem : IVec S2048x128 1) (mx : S8x128.Idx → EReal) (M M' : ℝ)

/-- The running maximum before the block, at a class's lane. -/
theorem old_max (hM : ∀ r : Fin 8, mx (ix2 r (lane c)) = ((M : ℝ) : EReal)) :
    k2_pay1 (F := Ideal) mx (ix1 (lane c)) = ((M : ℝ) : EReal) := by
  unfold k2_pay1
  refine (max_rows mx _ _ _ _ _).trans ?_
  refine Eq.trans ?_ (fold_max_const (by decide : 0 < 8) _ M hM)
  exact congrArg (fun z => Finset.fold max z (fun r : Fin 8 => mx (ix2 r (lane c))) Finset.univ) lit_bot

/-- After the block it is some real. -/
theorem new_max (hs : ∀ r, s (ix2 r (lane c)) = ((masked A (ρ r) c : ℝ) : EReal))
    (hM : ∀ r : Fin 8, mx (ix2 r (lane c)) = ((M : ℝ) : EReal)) :
    ∃ M' : ℝ, k2_pay2 (F := Ideal) s mx (ix1 (lane c)) = ((M' : ℝ) : EReal) := by
  obtain ⟨X, hX⟩ := fold_max_reals (Finset.univ : Finset (Fin 2048)) (fun r => s (ix2 r (lane c))) ⊥ bot_lt_top
    (fun r => masked A (ρ r) c) hs 0 (Finset.mem_univ _)
  refine ⟨max M X, ?_⟩
  unfold k2_pay2
  refine Eq.trans (congrArg₂ max (old_max c mx M hM) ?_) (max_real M X)
  refine (max_rows s _ _ _ _ _).trans (Eq.trans ?_ hX)
  exact congrArg (fun z => Finset.fold max z (fun r : Fin 2048 => s (ix2 r (lane c))) Finset.univ) lit_bot

/-- The factor old sums are multiplied by. -/
theorem factor (hM : ∀ r : Fin 8, mx (ix2 r (lane c)) = ((M : ℝ) : EReal))
    (hM' : k2_pay2 (F := Ideal) s mx (ix1 (lane c)) = ((M' : ℝ) : EReal)) :
    k2_pay3 (F := Ideal) s mx (ix1 (lane c)) = ((Real.exp (M - M') : ℝ) : EReal) := by
  unfold k2_pay3
  refine Eq.trans (congrArg Ideal.exp ?_) (exp_real _)
  exact (congrArg₂ (· - ·) (old_max c mx M hM) hM').trans (EReal.coe_sub _ _).symm

/-- A row's weight relative to the maximum. -/
theorem weight (hs : ∀ r, s (ix2 r (lane c)) = ((masked A (ρ r) c : ℝ) : EReal))
    (hm : ∀ r, mem (ix2 r (lane c)) = 1#1 ↔ A.mem (ρ r) c)
    (hM' : k2_pay2 (F := Ideal) s mx (ix1 (lane c)) = ((M' : ℝ) : EReal)) (r : Fin 2048) :
    k2_pay4 (F := Ideal) mem s mx (ix2 r (lane c)) = ((wt A (ρ r) c * Real.exp (-M') : ℝ) : EReal) := by
  classical
  have e1 : broadcastTo S2048x128 (shapeCast S1x128 (k2_pay2 (F := Ideal) s mx) shapeCasts_S128_S1x128)
      broadcasts_S1x128_S2048x128 (ix2 r (lane c)) = ((M' : ℝ) : EReal) :=
    (row_bcast _ _ _).trans ((as_row _ _ _).trans hM')
  have hx : exp (F := Ideal) (φ := .f32) (subf s (broadcastTo S2048x128 (shapeCast S1x128 (k2_pay2 (F := Ideal) s mx) shapeCasts_S128_S1x128)
      broadcasts_S1x128_S2048x128)) (ix2 r (lane c)) = ((Real.exp (masked A (ρ r) c - M') : ℝ) : EReal) := by
    refine Eq.trans (congrArg Ideal.exp ?_) (exp_real _)
    exact (congrArg₂ (· - ·) (hs r) e1).trans (EReal.coe_sub _ _).symm
  unfold k2_pay4
  refine (select_apply _ _ _ _).trans ((select_iff _ _ (hm r) _ _).trans ?_)
  unfold wt masked at *
  by_cases h : A.mem (ρ r) c
  · rw [if_pos h, if_pos h]
    rw [if_pos h] at hx
    refine hx.trans (congrArg _ ?_)
    rw [← Real.exp_add, sub_eq_add_neg]
  · rw [if_neg h, if_neg h, zero_mul]
    exact lit_zero

/-- The maximum is stored in every row. -/
theorem max_stored (hM' : k2_pay2 (F := Ideal) s mx (ix1 (lane c)) = ((M' : ℝ) : EReal)) (r : Fin 8) :
    k2_pay7 (F := Ideal) s mx (ix2 r (lane c)) = ((M' : ℝ) : EReal) := by
  unfold k2_pay7
  refine (congrFun (shapeCast_self _ shapeCasts_S8x128_S8x128) _).trans ((row_bcast _ _ _).trans ?_)
  exact (congrFun (shapeCast_self _ shapeCasts_S1x128_S1x128) _).trans ((as_row _ _ _).trans hM')

/-- The moved sum: an old sum relative to the old maximum and new weights relative to the new one. -/
theorem rescale (U W : ℝ) : U * Real.exp (-M) * Real.exp (M - M') + W * Real.exp (-M') = (U + W) * Real.exp (-M') := by
  rw [mul_assoc, ← Real.exp_add, show -M + (M - M') = -M' by ring]; ring

/-- The sum of exponentials after the block. -/
theorem den_next (hs : ∀ r, s (ix2 r (lane c)) = ((masked A (ρ r) c : ℝ) : EReal))
    (hm : ∀ r, mem (ix2 r (lane c)) = 1#1 ↔ A.mem (ρ r) c)
    (hM : ∀ r : Fin 8, mx (ix2 r (lane c)) = ((M : ℝ) : EReal))
    (hM' : k2_pay2 (F := Ideal) s mx (ix1 (lane c)) = ((M' : ℝ) : EReal)) (dn : S8x128.Idx → EReal) (U : ℝ)
    (hd : ∀ r : Fin 8, dn (ix2 r (lane c)) = ((U * Real.exp (-M) : ℝ) : EReal)) (r : Fin 8) :
    k2_pay5 (F := Ideal) mem s mx dn (ix2 r (lane c)) = (((U + ∑ r, wt A (ρ r) c) * Real.exp (-M') : ℝ) : EReal) := by
  unfold k2_pay5
  refine Eq.trans (congrArg₂ (· + ·) (congrArg₂ (· * ·)
    ((congrFun (shapeCast_self dn shapeCasts_S8x128_S8x128) _).trans (hd r))
    ((row_bcast _ _ _).trans ((as_row _ _ _).trans (factor c s mx M M' hM hM'))))
    ((row_bcast _ _ _).trans ((as_row _ _ _).trans ((sum_rows _ _ _ _ _ _).trans
      (sum_eq_real _ _ fun r => weight c ρ s mem mx M' hs hm hM' r))))) ?_
  rw [← rescale M M', EReal.coe_add, EReal.coe_mul _ (Real.exp (M - M')), Finset.sum_mul]

/-- The weighted sums after the block. -/
theorem num_next (e : S2048x128.Idx → EReal) (he : ∀ i, e i = ((emb A (row (ρ (i 0))) (i 1) : ℝ) : EReal))
    (hs : ∀ r, s (ix2 r (lane c)) = ((masked A (ρ r) c : ℝ) : EReal))
    (hm : ∀ r, mem (ix2 r (lane c)) = 1#1 ↔ A.mem (ρ r) c)
    (hM : ∀ r : Fin 8, mx (ix2 r (lane c)) = ((M : ℝ) : EReal))
    (hM' : k2_pay2 (F := Ideal) s mx (ix1 (lane c)) = ((M' : ℝ) : EReal)) (nm : S128x128.Idx → EReal) (U : Fin 128 → ℝ)
    (hn : ∀ d : Fin 128, nm (ix2 d (lane c)) = ((U d * Real.exp (-M) : ℝ) : EReal)) (d : Fin 128) :
    k2_pay6 (F := Ideal) (k2_pay11 e) mem s mx nm (ix2 d (lane c))
      = (((U d + ∑ r, emb A (row (ρ r)) d * wt A (ρ r) c) * Real.exp (-M') : ℝ) : EReal) := by
  unfold k2_pay6
  refine Eq.trans (congrArg₂ (· + ·) (congrArg₂ (· * ·)
    ((congrFun (shapeCast_self nm shapeCasts_S128x128_S128x128) _).trans (hn d))
    ((row_bcast _ _ _).trans ((as_row _ _ _).trans (factor c s mx M M' hM hM'))))
    ((dot_tn dot_S2048x128_S2048x128_S128x128_0_0_1_1_n_n.wf none _ _ _).trans
      (sum_eq_real _ (fun r => emb A (row (ρ r)) d * wt A (ρ r) c * Real.exp (-M')) fun r => ?_))) ?_
  · rw [mul_assoc, EReal.coe_mul]
    refine congrArg₂ (· * ·) ?_ (weight c ρ s mem mx M' hs hm hM' r)
    unfold k2_pay11
    exact (congrFun (shapeCast_self e shapeCasts_S2048x128_S2048x128) _).trans (he _)
  · rw [← rescale M M', EReal.coe_add, EReal.coe_mul _ (Real.exp (M - M')), Finset.sum_mul]

end Step

end Cert.KernelIdeal.Real
-- ==== Proof.Value.KAttend.lean ====
/-
  The third launch over the reals: at the lane of a class its results hold the softmax denominator and the weighted
  sums of the embeddings, up to a common positive factor.
-/
module

public import proofs.«01_k».proof.Proof.Value.KPool
public import proofs.«01_k».proof.Proof.Value.Upto

@[expose] public section

noncomputable section

namespace Cert.KernelIdeal.Real

open Cert.KernelIdeal.Gen Cert.KernelIdeal.Net Cert.Spec Cert.Law Cert.Reading
open Idealize.ShloMosaic Idealize.ShloMosaic.TcCoe Idealize.ShloMosaic.ValueIdx
open Idealize.ShloMosaic.Pipeline (Dat)
open scoped BigOperators

theorem lt2 (t : Fin cfg2.N) : t.val < 64 := Nat.lt_of_lt_of_eq t.isLt N_2

/-- The last point. -/
def last2 : Fin cfg2.N := ⟨63, by rw [show cfg2.N = 64 from N_2]; decide⟩

section Blocks

variable {F : FTy → Type} [FloatOps F]
variable (V : (c : Dev nD) → (b : Ref sig .tc) → Buf (Elt F) ((c : Thread nD τ).loc b)) (c : Dev nD)

theorem index2_0 (t : Fin cfg2.N) : win2_0.index t 0 = t.val ∧ win2_0.index t 1 = 0 := by
  have e0 : (grid2.coords t 0).val = t.val / 1 % 64 := Pipeline.Grid.coords_val t 0 (by decide) rfl
  have ht := lt2 t
  constructor
  · show (BitVec.ofNat 32 (grid2.coords t 0).val).toNat = t.val
    rw [BitVec.toNat_ofNat, e0]; omega
  · rfl

theorem index2_1 (t : Fin cfg2.N) : win2_1.index t 0 = t.val ∧ win2_1.index t 1 = 0 ∧ win2_1.index t 2 = 0 := by
  have e0 : (grid2.coords t 0).val = t.val / 1 % 64 := Pipeline.Grid.coords_val t 0 (by decide) rfl
  have ht := lt2 t
  refine ⟨?_, rfl, rfl⟩
  show (BitVec.ofNat 32 (grid2.coords t 0).val).toNat = t.val
  rw [BitVec.toNat_ofNat, e0]; omega

theorem blk2_0 (t : Fin cfg2.N) (j : S2048x128.Idx) :
    (blk2 V c 0 t : S2048x128.Idx → Elt F .f32) j
      = (V c main_v6 : S262144x128.Idx → Elt F .f32) (ix2 (row (at2048 t.val (lt2 t) (j 0))) (j 1)) := by
  refine congrArg (V c main_v6 : S262144x128.Idx → Elt F .f32) (funext fun a => Fin.ext ?_)
  match a with
  | ⟨0, _⟩ =>
    refine (win2_0.rect_emb_val t j 0).trans ?_
    rw [(index2_0 t).1]; rfl
  | ⟨1, _⟩ => exact win2_0.rect_emb_val_of_index_zero t 1 (index2_0 t).2 j

theorem blk2_1 (t : Fin cfg2.N) (r : Fin 2048) :
    (blk2 V c 1 t : S1x1x2048.Idx → Elt F .i32) (ix3 (0 : Fin 1) (0 : Fin 1) r)
      = (V c main_v9 : S64x1x2048.Idx → Elt F .i32) (ix3 (⟨t.val, lt2 t⟩ : Fin 64) (0 : Fin 1) r) := by
  refine congrArg (V c main_v9 : S64x1x2048.Idx → Elt F .i32) (funext fun a => Fin.ext ?_)
  match a with
  | ⟨0, _⟩ =>
    refine (win2_1.rect_emb_val t (ix3 (0 : Fin 1) (0 : Fin 1) r) 0).trans ?_
    rw [(index2_1 t).1]
    show t.val * 1 + 0 = t.val
    omega
  | ⟨1, _⟩ => exact win2_1.rect_emb_val_of_index_zero t 1 (index2_1 t).2.1 (ix3 (0 : Fin 1) (0 : Fin 1) r)
  | ⟨2, _⟩ => exact win2_1.rect_emb_val_of_index_zero t 2 (index2_1 t).2.2 (ix3 (0 : Fin 1) (0 : Fin 1) r)

/-- A window that does not move is its whole array. -/
theorem blk2_2 (t : Fin cfg2.N) : (blk2 V c 2 t : S128x4096.Idx → Elt F .f32) = V c main_v12 := by
  funext j
  refine congrArg (V c main_v12 : S128x4096.Idx → Elt F .f32) (funext fun a => Fin.ext ?_)
  match a with
  | ⟨0, _⟩ => exact win2_2.rect_emb_val_of_index_zero t 0 rfl j
  | ⟨1, _⟩ => exact win2_2.rect_emb_val_of_index_zero t 1 rfl j
theorem blk2_3 (t : Fin cfg2.N) : (blk2 V c 3 t : S1x4096.Idx → Elt F .f32) = V c main_v14 := by
  funext j
  refine congrArg (V c main_v14 : S1x4096.Idx → Elt F .f32) (funext fun a => Fin.ext ?_)
  match a with
  | ⟨0, _⟩ => exact win2_3.rect_emb_val_of_index_zero t 0 rfl j
  | ⟨1, _⟩ => exact win2_3.rect_emb_val_of_index_zero t 1 rfl j
theorem blk2_4 (t : Fin cfg2.N) : (blk2 V c 4 t : S1x4096.Idx → Elt F .f32) = V c main_v16 := by
  funext j
  refine congrArg (V c main_v16 : S1x4096.Idx → Elt F .f32) (funext fun a => Fin.ext ?_)
  match a with
  | ⟨0, _⟩ => exact win2_4.rect_emb_val_of_index_zero t 0 rfl j
  | ⟨1, _⟩ => exact win2_4.rect_emb_val_of_index_zero t 1 rfl j

/-- The two results are written back after the last point, whole. -/
theorem out2_5 : ((dat2 V c).arrAt 5 cfg2.N : S8x128.Idx → Elt F .f32) = (pool V c last2.val last2.isLt).1 := by
  refine (dat2 V c).arrAt_eq_of_cover 5 (pool V c last2.val last2.isLt).1 (fun t hf => ?_) fun i => ⟨last2, (flush2_5 _).mpr rfl, ?_⟩
  · have h3 : t.val = 63 := by have := (flush2_5 t).mp hf; have := lt2 t; omega
    obtain rfl : t = last2 := Fin.ext h3
    funext j
    refine (congrFun (after2_5 V c _) j).trans (congrArg (pool V c last2.val last2.isLt).1 (funext fun a => Fin.ext ?_))
    match a with
    | ⟨0, _⟩ => exact (win2_5.rect_emb_val_of_index_zero _ 0 rfl j).symm
    | ⟨1, _⟩ => exact (win2_5.rect_emb_val_of_index_zero _ 1 rfl j).symm
  · show i ∈ ((View.whole main_v17_0).slice (win2_5.rect last2)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

theorem out2_6 : ((dat2 V c).arrAt 6 cfg2.N : S128x128.Idx → Elt F .f32) = (pool V c last2.val last2.isLt).2.1 := by
  refine (dat2 V c).arrAt_eq_of_cover 6 (pool V c last2.val last2.isLt).2.1 (fun t hf => ?_) fun i => ⟨last2, (flush2_6 _).mpr rfl, ?_⟩
  · have h3 : t.val = 63 := by have := (flush2_6 t).mp hf; have := lt2 t; omega
    obtain rfl : t = last2 := Fin.ext h3
    funext j
    refine (congrFun (after2_6 V c _) j).trans (congrArg (pool V c last2.val last2.isLt).2.1 (funext fun a => Fin.ext ?_))
    match a with
    | ⟨0, _⟩ => exact (win2_6.rect_emb_val_of_index_zero _ 0 rfl j).symm
    | ⟨1, _⟩ => exact (win2_6.rect_emb_val_of_index_zero _ 1 rfl j).symm
  · show i ∈ ((View.whole main_v17_1).slice (win2_6.rect last2)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

end Blocks

section Run

variable {A : Net}
variable (V : (c : Dev nD) → (b : Ref sig .tc) → Buf (Elt Ideal) ((c : Thread nD τ).loc b)) (c : Dev nD)

/-- What the pools hold at class `k`'s lane after the first `n` training rows. -/
def Pooled (A : Net) (k : Fin 32) (n : ℕ) (p : (S8x128.Idx → EReal) × (S128x128.Idx → EReal) × (S8x128.Idx → EReal)) : Prop :=
  ∃ M : ℝ, (∀ r : Fin 8, p.2.2 (ix2 r (lane k)) = ((M : ℝ) : EReal))
    ∧ (∀ r : Fin 8, p.1 (ix2 r (lane k)) = ((upto (fun r => wt A r k) n * Real.exp (-M) : ℝ) : EReal))
    ∧ ∀ d : Fin 128, p.2.1 (ix2 d (lane k))
        = ((upto (fun r => emb A (row r) d * wt A r k) n * Real.exp (-M) : ℝ) : EReal)

/-- What the launch reads. -/
structure Feeds (A : Net) : Prop where
  e : ∀ i, (V c main_v6 : S262144x128.Idx → EReal) i = ((emb A (i 0) (i 1) : ℝ) : EReal)
  lab : ∀ (t : Fin 64) (r : Fin 2048) (k : Fin 32), A.mem (at2048 t.val t.isLt r) k
    ↔ (V c main_v9 : S64x1x2048.Idx → BitVec 32) (ix3 t (0 : Fin 1) r) = BitVec.ofNat 32 k.val
  w : ∀ i, (V c main_v12 : S128x4096.Idx → EReal) i = A.aw (clsOf (i 1)) (unitOf (i 1)) (i 0)
  b : ∀ i, (V c main_v14 : S1x4096.Idx → EReal) i = A.ab (clsOf (i 1)) (unitOf (i 1))
  v : ∀ i, (V c main_v16 : S1x4096.Idx → EReal) i = ((A.v (clsOf (i 1)) (unitOf (i 1)) : ℝ) : EReal)

/-- One more block. -/
theorem pooled_next (R : Feeds V c A) (k : Fin 32) (t : Fin cfg2.N)
    (dn : S8x128.Idx → EReal) (nm : S128x128.Idx → EReal) (mx : S8x128.Idx → EReal)
    (h : Pooled A k (t.val * 2048) (dn, nm, mx)) :
    Pooled A k ((t.val + 1) * 2048)
      (dnNext (F := Ideal) (blk2 V c 0 t) (blk2 V c 1 t) (blk2 V c 2 t) (blk2 V c 3 t) (blk2 V c 4 t) dn mx,
       nmNext (F := Ideal) (blk2 V c 0 t) (blk2 V c 1 t) (blk2 V c 2 t) (blk2 V c 3 t) (blk2 V c 4 t) nm mx,
       mxNext (F := Ideal) (blk2 V c 0 t) (blk2 V c 1 t) (blk2 V c 2 t) (blk2 V c 3 t) (blk2 V c 4 t) mx) := by
  obtain ⟨M, hM, hd, hn⟩ := h
  have he : ∀ j, (blk2 V c 0 t : S2048x128.Idx → EReal) j
      = ((emb A (row (at2048 t.val (lt2 t) (j 0))) (j 1) : ℝ) : EReal) := fun j => (blk2_0 V c t j).trans (R.e _)
  have hl : ∀ (r : Fin 2048) (k : Fin 32), A.mem (at2048 t.val (lt2 t) r) k
      ↔ (blk2 V c 1 t : S1x1x2048.Idx → BitVec 32) (ix3 (0 : Fin 1) (0 : Fin 1) r) = BitVec.ofNat 32 k.val := fun r k =>
    (R.lab ⟨t.val, lt2 t⟩ r k).trans (Iff.of_eq (congrArg (· = _) (blk2_1 V c t r).symm))
  have hw : ∀ i, (blk2 V c 2 t : S128x4096.Idx → EReal) i = A.aw (clsOf (i 1)) (unitOf (i 1)) (i 0) :=
    fun i => (congrFun (blk2_2 V c t) i).trans (R.w i)
  have hb : ∀ i, (blk2 V c 3 t : S1x4096.Idx → EReal) i = A.ab (clsOf (i 1)) (unitOf (i 1)) :=
    fun i => (congrFun (blk2_3 V c t) i).trans (R.b i)
  have hv : ∀ i, (blk2 V c 4 t : S1x4096.Idx → EReal) i = ((A.v (clsOf (i 1)) (unitOf (i 1)) : ℝ) : EReal) :=
    fun i => (congrFun (blk2_4 V c t) i).trans (R.v i)
  have hs := fun r => scores_real (A := A) (at2048 t.val (lt2 t)) _ _ _ _ _ he hl hw hb hv r k
  have hm := fun r => member_iff (A := A) (at2048 t.val (lt2 t)) _ hl r k
  obtain ⟨M', hM'⟩ := new_max k (at2048 t.val (lt2 t)) _ mx M hs hM
  have step : ∀ f : Fin 131072 → ℝ, upto f (t.val * 2048) + ∑ r, f (at2048 t.val (lt2 t) r) = upto f ((t.val + 1) * 2048) := fun f => by
    have := lt2 t
    rw [Nat.succ_mul, upto_add f _ _ (by omega)]; rfl
  refine ⟨M', fun r => max_stored k _ mx M' hM' r, fun r => ?_, fun d => ?_⟩
  · rw [← step]
    exact den_next k (at2048 t.val (lt2 t)) _ _ mx M M' hs hm hM hM' dn _ hd r
  · rw [← step]
    exact num_next k (at2048 t.val (lt2 t)) _ _ mx M M' _ he hs hm hM hM' nm
      (fun d => upto (fun r => emb A (row r) d * wt A r k) (t.val * 2048)) hn d

/-- After point `n` the pools hold the first `2048 * (n + 1)` training rows. -/
theorem pooled (R : Feeds V c A) (k : Fin 32) : ∀ (n : ℕ) (h : n < cfg2.N), Pooled A k ((n + 1) * 2048) (pool V c n h) := by
  intro n
  induction n with
  | zero =>
    intro h
    refine pooled_next V c R k ⟨0, h⟩ _ _ _ ⟨low, fun r => ?_, fun r => ?_, fun d => ?_⟩
    · unfold k2_pay10
      exact (congrFun (shapeCast_self (broadcast S8x128 (Scalar.ofBits (F := Ideal) .f32 0xF149F2CA#32)) shapeCasts_S8x128_S8x128) (ix2 r (lane k))).trans lit_low
    · rw [Nat.zero_mul, upto_zero, zero_mul]; exact lit_zero
    · rw [Nat.zero_mul, upto_zero, zero_mul]; exact lit_zero
  | succ n ih =>
    intro h
    exact pooled_next V c R k ⟨n + 1, h⟩ _ _ _ (ih (by omega))

/-- The launch's two results at a class's lane: the denominator and the weighted sums, times the same exponential. -/
theorem pools (R : Feeds V c A) (k : Fin 32) : ∃ M : ℝ,
    (∀ r : Fin 8, ((dat2 V c).arrAt 5 cfg2.N : S8x128.Idx → EReal) (ix2 r (lane k)) = ((den A k * Real.exp (-M) : ℝ) : EReal))
    ∧ ∀ d : Fin 128, ((dat2 V c).arrAt 6 cfg2.N : S128x128.Idx → EReal) (ix2 d (lane k)) = ((num A d k * Real.exp (-M) : ℝ) : EReal) := by
  obtain ⟨M, -, hd, hn⟩ := pooled V c R k 63 last2.isLt
  refine ⟨M, fun r => ?_, fun d => ?_⟩
  · refine ((congrFun (out2_5 V c) _).trans (hd r)).trans (congrArg (fun z : ℝ => ((z * Real.exp (-M) : ℝ) : EReal)) ?_)
    exact upto_end _ _ (by norm_num)
  · refine ((congrFun (out2_6 V c) _).trans (hn d)).trans (congrArg (fun z : ℝ => ((z * Real.exp (-M) : ℝ) : EReal)) ?_)
    exact upto_end _ _ (by norm_num)

end Run

end Cert.KernelIdeal.Real
-- ==== Proof.Value.KDists.lean ====
/-
  The fourth launch over the reals: minus the squared distances of the embeddings to the prototypes, and the mean
  squared distance of the prototypes.
-/
module

public import proofs.«01_k».proof.Proof.Dists
public import proofs.«01_k».proof.Proof.Value.KAttend
public import proofs.«01_k».proof.Proof.Value.KEmbed

@[expose] public section

noncomputable section

namespace Cert.KernelIdeal.Real

open Cert.KernelIdeal.Gen Cert.KernelIdeal.Net Cert.Spec Cert.Law Cert.Reading
open Idealize.ShloMosaic Idealize.ShloMosaic.TcCoe Idealize.ShloMosaic.ValueIdx
open Idealize.ShloMosaic.Pipeline (Dat)
open scoped BigOperators

variable {A : Net}

/-- The sum over a stack of one square matrix. -/
theorem sum_one {n : ℕ} (f : (⟨3, ![1, n, n]⟩ : Shape).Idx → EReal) : ∑ i, f i = ∑ a : Fin n, ∑ b : Fin n, f (ix3 (0 : Fin 1) a b) := by
  rw [← Fintype.sum_prod_type (f := fun p : Fin n × Fin n => f (ix3 (0 : Fin 1) p.1 p.2))]
  refine Fintype.sum_equiv ⟨fun i => ((i 1 : Fin n), (i 2 : Fin n)), fun p => ix3 (0 : Fin 1) p.1 p.2, fun i => ?_, fun p => rfl⟩ _ _ fun i => ?_
  · refine Eq.trans ?_ (eq_ix3 i).symm
    exact congrArg (fun z : Fin 1 => ix3 z (i 1) (i 2)) (Subsingleton.elim _ _)
  · refine congrArg f ((eq_ix3 i).trans ?_)
    exact congrArg (fun z : Fin 1 => ix3 z (i 1) (i 2)) (Subsingleton.elim _ _)

section Body

variable (dn : S1x128.Idx → EReal) (nm : S128x128.Idx → EReal)

/-- What the launch is given at a class's lane: the denominator and the weighted sums, times the same exponential. -/
def Given (A : Net) (dn : S1x128.Idx → EReal) (nm : S128x128.Idx → EReal) (k : Fin 32) : Prop :=
  ∃ M : ℝ, dn (ix2 (0 : Fin 1) (lane k)) = ((den A k * Real.exp (-M) : ℝ) : EReal)
    ∧ ∀ d : Fin 128, nm (ix2 d (lane k)) = ((num A d k * Real.exp (-M) : ℝ) : EReal)

/-- The quotient is the prototype. -/
theorem proto_real (k : Fin 32) (hk : ∃ r, A.mem r k) (h : Given A dn nm k) (d : Fin 128) :
    k3_pay2 (F := Ideal) dn nm (ix2 d (lane k)) = ((prt A d k : ℝ) : EReal) := by
  obtain ⟨M, hd, hn⟩ := h
  have hp := den_pos A k hk
  have he := Real.exp_pos (-M)
  have h0 : den A k * Real.exp (-M) ≠ 0 := (mul_pos hp he).ne'
  have hsel : ∀ b : S1x128.Idx → EReal, b (ix2 (0 : Fin 1) (lane k)) = ((den A k * Real.exp (-M) : ℝ) : EReal) →
      select (cmpf (F := Ideal) (φ := .f32) .oeq b (broadcast S1x128 (Scalar.ofBits (F := Ideal) .f32 0x00000000#32)))
        (broadcast S1x128 (Scalar.ofBits (F := Ideal) .f32 0x3F800000#32)) b (ix2 (0 : Fin 1) (lane k))
        = ((den A k * Real.exp (-M) : ℝ) : EReal) := fun b hb => by
    have hc : cmpf (F := Ideal) (φ := .f32) .oeq b (broadcast S1x128 (Scalar.ofBits (F := Ideal) .f32 0x00000000#32))
        (ix2 (0 : Fin 1) (lane k)) = 1#1 ↔ den A k * Real.exp (-M) = 0 :=
      (Iff.of_eq (congrArg (· = 1#1) (congrArg₂ (Ideal.cmp .oeq) hb lit_zero))).trans (oeq_real _ _)
    refine (select_apply _ _ _ _).trans ((select_iff _ _ hc _ _).trans ?_)
    rw [if_neg h0]
    exact hb
  unfold k3_pay2
  refine Eq.trans (congrArg₂ Ideal.div ((congrFun (shapeCast_self nm shapeCasts_S128x128_S128x128) _).trans (hn d))
    ((row_bcast _ _ _).trans (hsel _ ((congrFun (shapeCast_self dn shapeCasts_S1x128_S1x128) _).trans hd)))) ?_
  refine (div_real _ _ h0).trans (congrArg _ ?_)
  unfold prt
  exact mul_div_mul_right _ _ he.ne'

variable (hm : ∀ k : Fin 32, ∃ r, A.mem r k) (hg : ∀ k, Given A dn nm k)
include hm hg

/-- A prototype's squared length. -/
theorem len_real (k : Fin 32) : k3_pay3 (F := Ideal) dn nm (ix1 (lane k)) = ((len A k : ℝ) : EReal) := by
  unfold k3_pay3
  refine (sum_rows _ _ _ _ _ _).trans (sum_eq_real _ _ fun d => ?_)
  exact (congrArg₂ (· * ·) (proto_real dn nm k (hm k) (hg k) d) (proto_real dn nm k (hm k) (hg k) d)).trans (EReal.coe_mul _ _).symm

/-- A block of the first result. -/
theorem far_blk (ρ : Fin 8192 → Fin 262144) (e : S8192x128.Idx → EReal) (he : ∀ i, e i = ((emb A (ρ (i 0)) (i 1) : ℝ) : EReal))
    (r : Fin 8192) (k : Fin 32) :
    k3_pay4 (F := Ideal) dn nm e (ix2 r k) = ((far A (ρ r) k : ℝ) : EReal) := by
  have he' : ∀ d, shapeCast S8192x128 e shapeCasts_S8192x128_S8192x128 (ix2 r d) = ((emb A (ρ r) d : ℝ) : EReal) := fun d =>
    (congrFun (shapeCast_self e shapeCasts_S8192x128_S8192x128) _).trans (he _)
  unfold k3_pay4
  refine (slice_cols _ _ (ix2 r k) (ix2 r (lane k)) rfl rfl).trans ?_
  unfold far
  refine Eq.trans (congrArg₂ (· - ·) ?_ ((row_bcast _ _ _).trans ((as_row _ _ _).trans (len_real dn nm hm hg k)))) (EReal.coe_sub _ _).symm
  refine Eq.trans (congrArg₂ (· - ·) ?_ ((col_bcast _ _ _).trans ((as_col _ _ _).trans ((sum_cols _ _ _ _ _ _).trans
    (sum_eq_real _ (fun d => emb A (ρ r) d * emb A (ρ r) d) fun d => ?_))))) (EReal.coe_sub _ _).symm
  · refine Eq.trans (congrArg₂ (· * ·) lit_two ?_) (EReal.coe_mul _ _).symm
    refine (slice_cols _ _ (ix2 r (lane k)) (ix2 r (⟨k.val, by omega⟩ : Fin 256)) rfl rfl).trans ?_
    refine (dot_nn none _ _ _).trans (sum_eq_real _ _ fun d => ?_)
    rw [EReal.coe_mul]
    refine congrArg₂ (· * ·) (he' d) (Eq.trans ?_ (proto_real dn nm k (hm k) (hg k) d))
    refine concatenate_pair_apply_left (t := S128x256) (s₁ := S128x128) (s₂ := S128x128) 1 _ _ _ _ rfl (ix2 d (lane k)) fun b => ?_
    match b with
    | ⟨0, _⟩ => rfl
    | ⟨1, _⟩ => rfl
  · exact (congrArg₂ (· * ·) (he' d) (he' d)).trans (EReal.coe_mul _ _).symm

/-- The squared distance of two prototypes. -/
theorem gap_real (k k' : Fin 32) :
    k3_pay5 (F := Ideal) dn nm (ix3 (0 : Fin 1) k k') = ((gap A k k' : ℝ) : EReal) := by
  unfold k3_pay5
  refine (shapeCast_apply _ _ _ (ix2 k k') ?_).trans ?_
  · rw [Shape.rowMajor_val_two, Shape.rowMajor_val_three]
    show k.val * 32 + k'.val = (0 * 32 + k.val) * 32 + k'.val
    omega
  refine (extractStridedSlice_apply _ _ _ (ix2 k k') (ix2 (lane k) (lane k')) fun a => ?_).trans ?_
  · match a with
    | ⟨0, _⟩ => exact (Nat.zero_add _).symm
    | ⟨1, _⟩ => exact (Nat.zero_add _).symm
  unfold gap
  refine Eq.trans (congrArg₂ (· - ·) (congrArg₂ (· + ·) ((col_bcast _ _ _).trans ((as_col _ _ _).trans (len_real dn nm hm hg k)))
    ((row_bcast _ _ _).trans ((as_row _ _ _).trans (len_real dn nm hm hg k')))) (congrArg₂ (· * ·) lit_two
      ((dot_tn dot_S128x128_S128x128_S128x128_0_0_1_1_n_n.wf none _ _ _).trans (sum_eq_real _ (fun d => prt A d k * prt A d k') fun d => ?_)))) ?_
  · exact (congrArg₂ (· * ·) (proto_real dn nm k (hm k) (hg k) d) (proto_real dn nm k' (hm k') (hg k') d)).trans (EReal.coe_mul _ _).symm
  · rw [EReal.coe_sub, EReal.coe_add, EReal.coe_mul]

/-- The second result. -/
theorem spread_real (i : S8x128.Idx) : k3_pay1 (F := Ideal) (k3_pay5 dn nm) i = ((spread A : ℝ) : EReal) := by
  unfold k3_pay1 spread
  refine Eq.trans (congrArg₂ Ideal.div ?_ lit_pairs) (div_real _ _ (by norm_num))
  refine (shapeCast_apply _ shapeCasts_S1_S1x1x1 (ix3 (0 : Fin 1) (0 : Fin 1) (0 : Fin 1)) (ix1 (0 : Fin 1)) ?_).trans ?_
  · rw [Shape.rowMajor_val_one, Shape.rowMajor_val_three]; rfl
  refine (Ideal.multiReduction_add_total _ _ _ (fun b => by match b with | ⟨0, _⟩ => rfl) _ _ _).trans ?_
  refine (sum_one _).trans (sum_eq_real _ _ fun k => sum_eq_real _ _ fun k' => ?_)
  exact gap_real dn nm hm hg k k'

end Body

section Blocks

variable {F : FTy → Type} [FloatOps F]
variable (V : (c : Dev nD) → (b : Ref sig .tc) → Buf (Elt F) ((c : Thread nD τ).loc b)) (c : Dev nD)

theorem lt3 (t : Fin cfg3.N) : t.val < 32 := Nat.lt_of_lt_of_eq t.isLt N_3

/-- The last point. -/
def last3 : Fin cfg3.N := ⟨31, by rw [show cfg3.N = 32 from N_3]; decide⟩

/-- Row `r` of the `t`-th block of 8192. -/
def at8192 (t : ℕ) (ht : t < 32) (r : Fin 8192) : Fin 262144 := ⟨t * 8192 + r.val, by omega⟩

theorem index3_0 (t : Fin cfg3.N) : win3_0.index t 0 = t.val ∧ win3_0.index t 1 = 0 := by
  have e0 : (grid3.coords t 0).val = t.val / 1 % 32 := Pipeline.Grid.coords_val t 0 (by decide) rfl
  have ht := lt3 t
  constructor
  · show (BitVec.ofNat 32 (grid3.coords t 0).val).toNat = t.val
    rw [BitVec.toNat_ofNat, e0]; omega
  · rfl

theorem index3_3 (t : Fin cfg3.N) : win3_3.index t 0 = t.val ∧ win3_3.index t 1 = 0 := by
  have e0 : (grid3.coords t 0).val = t.val / 1 % 32 := Pipeline.Grid.coords_val t 0 (by decide) rfl
  have ht := lt3 t
  constructor
  · show (BitVec.ofNat 32 (grid3.coords t 0).val).toNat = t.val
    rw [BitVec.toNat_ofNat, e0]; omega
  · rfl

theorem blk3_0 (t : Fin cfg3.N) (j : S8192x128.Idx) :
    (blk3 V c 0 t : S8192x128.Idx → Elt F .f32) j
      = (V c main_v6 : S262144x128.Idx → Elt F .f32) (ix2 (at8192 t.val (lt3 t) (j 0)) (j 1)) := by
  refine congrArg (V c main_v6 : S262144x128.Idx → Elt F .f32) (funext fun a => Fin.ext ?_)
  match a with
  | ⟨0, _⟩ =>
    refine (win3_0.rect_emb_val t j 0).trans ?_
    rw [(index3_0 t).1]; rfl
  | ⟨1, _⟩ => exact win3_0.rect_emb_val_of_index_zero t 1 (index3_0 t).2 j

/-- A window that does not move is its whole array. -/
theorem blk3_1 (t : Fin cfg3.N) : (blk3 V c 1 t : S8x128.Idx → Elt F .f32) = V c main_v17_0 := by
  funext j
  refine congrArg (V c main_v17_0 : S8x128.Idx → Elt F .f32) (funext fun a => Fin.ext ?_)
  match a with
  | ⟨0, _⟩ => exact win3_1.rect_emb_val_of_index_zero t 0 rfl j
  | ⟨1, _⟩ => exact win3_1.rect_emb_val_of_index_zero t 1 rfl j
theorem blk3_2 (t : Fin cfg3.N) : (blk3 V c 2 t : S128x128.Idx → Elt F .f32) = V c main_v17_1 := by
  funext j
  refine congrArg (V c main_v17_1 : S128x128.Idx → Elt F .f32) (funext fun a => Fin.ext ?_)
  match a with
  | ⟨0, _⟩ => exact win3_2.rect_emb_val_of_index_zero t 0 rfl j
  | ⟨1, _⟩ => exact win3_2.rect_emb_val_of_index_zero t 1 rfl j

/-- The blocks of the first result fill its array. -/
theorem out3_3 (G : S262144x32.Idx → Elt F .f32)
    (h : ∀ (t : Fin cfg3.N) (j : S8192x32.Idx),
      k3_pay4 (part rowDn (blk3 V c 1 t)) (blk3 V c 2 t) (blk3 V c 0 t) j = G (ix2 (at8192 t.val (lt3 t) (j 0)) (j 1))) :
    ((dat3 V c).arrAt 3 cfg3.N : S262144x32.Idx → Elt F .f32) = G := by
  refine (dat3 V c).arrAt_eq_of_cover 3 G (fun t hf => ?_) fun i => ?_
  · funext j
    refine (congrFun (after3_3 V c t) j).trans ((h t j).trans (congrArg G (funext fun a => Fin.ext ?_)))
    match a with
    | ⟨0, _⟩ =>
      refine ((win3_3.rect_emb_val t j 0).trans ?_).symm
      rw [(index3_3 t).1]; rfl
    | ⟨1, _⟩ => exact (win3_3.rect_emb_val_of_index_zero t 1 (index3_3 t).2 j).symm
  · have h0 : (i 0).val < 262144 := (i 0).isLt
    have h1 : (i 1).val < 32 := (i 1).isLt
    have hN : cfg3.N = 32 := N_3
    refine ⟨⟨(i 0).val / 8192, by omega⟩, flush3_3 _, ?_⟩
    generalize ht : (⟨(i 0).val / 8192, by omega⟩ : Fin cfg3.N) = t
    have hv : t.val = (i 0).val / 8192 := by rw [← ht]
    show i ∈ ((View.whole main_v18_0).slice (win3_3.rect t)).set
    rw [View.set_slice_whole, Rect.mem_set_unit]
    intro a
    match a with
    | ⟨0, _⟩ =>
      show win3_3.index t 0 * 8192 ≤ (i 0).val ∧ (i 0).val < win3_3.index t 0 * 8192 + 8192
      rw [(index3_3 t).1]; omega
    | ⟨1, _⟩ =>
      show win3_3.index t 1 * 32 ≤ (i 1).val ∧ (i 1).val < win3_3.index t 1 * 32 + 32
      rw [(index3_3 t).2]; omega

/-- The second result is written back after the last point, whole. -/
theorem out3_4 (G : S8x128.Idx → Elt F .f32)
    (h : k3_pay1 (k3_pay5 (part rowDn (blk3 V c 1 last3)) (blk3 V c 2 last3)) = G) :
    ((dat3 V c).arrAt 4 cfg3.N : S8x128.Idx → Elt F .f32) = G := by
  refine (dat3 V c).arrAt_eq_of_cover 4 G (fun t hf => ?_) fun i => ⟨last3, (flush3_4 _).mpr rfl, ?_⟩
  · have h3 : t.val = 31 := by have := (flush3_4 t).mp hf; have := lt3 t; omega
    obtain rfl : t = last3 := Fin.ext h3
    funext j
    refine (congrFun ((after3_4 V c _).trans h) j).trans (congrArg G (funext fun a => Fin.ext ?_))
    match a with
    | ⟨0, _⟩ => exact (win3_4.rect_emb_val_of_index_zero _ 0 rfl j).symm
    | ⟨1, _⟩ => exact (win3_4.rect_emb_val_of_index_zero _ 1 rfl j).symm
  · show i ∈ ((View.whole main_v18_1).slice (win3_4.rect last3)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

end Blocks

section Run

variable (V : (c : Dev nD) → (b : Ref sig .tc) → Buf (Elt Ideal) ((c : Thread nD τ).loc b)) (c : Dev nD)

/-- What the launch reads of the pools, at every class's lane. -/
def Pools (A : Net) : Prop := ∀ k : Fin 32, ∃ M : ℝ,
  (∀ r : Fin 8, (V c main_v17_0 : S8x128.Idx → EReal) (ix2 r (lane k)) = ((den A k * Real.exp (-M) : ℝ) : EReal))
  ∧ ∀ d : Fin 128, (V c main_v17_1 : S128x128.Idx → EReal) (ix2 d (lane k)) = ((num A d k * Real.exp (-M) : ℝ) : EReal)

/-- The launch's blocks of the pools are what its body expects. -/
theorem given (hp : Pools V c A) (t : Fin cfg3.N) (k : Fin 32) :
    Given A (part (F := Ideal) (e := .f32) rowDn (blk3 V c 1 t)) (blk3 V c 2 t) k := by
  obtain ⟨M, hd, hn⟩ := hp k
  refine ⟨M, ?_, fun d => (congrFun (blk3_2 V c t) _).trans (hn d)⟩
  refine (congrFun (blk3_1 V c t) _).trans (Eq.trans (congrArg (V c main_v17_0 : S8x128.Idx → EReal) (funext fun a => Fin.ext ?_)) (hd 0))
  match a with
  | ⟨0, _⟩ => rfl
  | ⟨1, _⟩ =>
    show 0 + 1 * k.val = k.val
    omega

/-- The first result. -/
theorem fars (hm : ∀ k : Fin 32, ∃ r, A.mem r k) (hp : Pools V c A)
    (he : ∀ i, (V c main_v6 : S262144x128.Idx → EReal) i = ((emb A (i 0) (i 1) : ℝ) : EReal)) :
    ((dat3 V c).arrAt 3 cfg3.N : S262144x32.Idx → EReal) = fun i => ((far A (i 0) (i 1) : ℝ) : EReal) := by
  refine out3_3 V c _ fun t j => ?_
  obtain ⟨r, k, rfl⟩ : ∃ (r : Fin 8192) (k : Fin 32), j = ix2 r k := ⟨j 0, j 1, eq_ix2 j⟩
  exact far_blk _ _ hm (given V c hp t) (at8192 t.val (lt3 t)) _ (fun j => (blk3_0 V c t j).trans (he _)) r k

/-- The second result, in every place of its array. -/
theorem spreads (hm : ∀ k : Fin 32, ∃ r, A.mem r k) (hp : Pools V c A) :
    ((dat3 V c).arrAt 4 cfg3.N : S8x128.Idx → EReal) = fun _ => ((spread A : ℝ) : EReal) :=
  out3_4 V c _ (funext fun i => spread_real _ _ hm (given V c hp last3) i)

end Run

end Cert.KernelIdeal.Real
-- ==== Proof.Value.KRun.lean ====
/-
  The idealized kernel's whole run over the reals: what its two results hold once @main has ended.
-/
module

public import proofs.«01_k».proof.Proof.Value.Reads
public import proofs.«01_k».proof.Proof.Value.KStats
public import proofs.«01_k».proof.Proof.Value.KEmbed
public import proofs.«01_k».proof.Proof.Value.KAttend
public import proofs.«01_k».proof.Proof.Value.KDists

@[expose] public section

noncomputable section

namespace Cert.KernelIdeal.Real

open Cert.KernelIdeal.Gen Cert.KernelIdeal.Net Cert.Spec Cert.Reading
open Idealize.ShloMosaic Idealize.ShloMosaic.TcCoe Idealize.ShloMosaic.ValueIdx

variable {A : Net} (m : (ℓ : Loc nD τ sig) → Buf (Elt Ideal) ℓ) (ρ : Dev nD → PrngReg) (c : Dev nD)

/-- The arguments one device starts with hold the data `A`. -/
abbrev Holds (A : Net) : Prop :=
  Reads A (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14))

/-- An argument is unchanged by the first launch. -/
theorem W1_arg (a : Ref sig .tc) (ha : a ∈ argRefs) : W1 m ρ c (Proc.devRef .tc a) = m ((c : Thread nD τ).loc a) :=
  W1_keep m ρ c a (args_kept a ha).1

/-- An argument is unchanged by the first two launches. -/
theorem W3_arg (a : Ref sig .tc) (ha : a ∈ argRefs) : W3 m ρ c (Proc.devRef .tc a) = m ((c : Thread nD τ).loc a) :=
  (W3_keep m ρ c a (args_kept a ha).2.1).trans (W2_arg m ρ c a ha)

/-- The first launch leaves the column sums of the hidden layer, and they are still there before the second. -/
theorem W2_sums (R : Holds m c A) (i : S8x512.Idx) :
    (W2 m ρ c (Proc.devRef .tc main_v0_0) : S8x512.Idx → EReal) i = ((hs A (i 1) : ℝ) : EReal) :=
  (congrFun (W2_keep m ρ c main_v0_0 (by decide)) i).trans
    ((congrFun (W1_arr m ρ c 2) i).trans (congrFun (sums (tc (W0 m ρ)) c R.x R.w0) i))

/-- The first launch leaves the column sums of the hidden layer's squares, and they are still there before the second. -/
theorem W2_squares (R : Holds m c A) (i : S8x512.Idx) :
    (W2 m ρ c (Proc.devRef .tc main_v0_1) : S8x512.Idx → EReal) i = ((hss A (i 1) : ℝ) : EReal) :=
  (congrFun (W2_keep m ρ c main_v0_1 (by decide)) i).trans
    ((congrFun (W1_arr m ρ c 3) i).trans (congrFun (squares (tc (W0 m ρ)) c R.x R.w0) i))

/-- The second launch leaves the embeddings. -/
theorem W3_emb (R : Holds m c A) (i : S262144x128.Idx) :
    (W3 m ρ c (Proc.devRef .tc main_v6) : S262144x128.Idx → EReal) i = ((emb A (i 0) (i 1) : ℝ) : EReal) := by
  refine (congrFun (W3_arr m ρ c 8) i).trans (congrFun (embeds (tc (W2 m ρ)) c (fun i => ?_) (fun i => ?_) (W2_sums m ρ c R)
    (W2_squares m ρ c R) (fun i => ?_) (fun i => ?_) (fun i h => ?_) (fun i => ?_)) i)
  · exact (congrFun (W2_arg m ρ c main_arg0 (by decide)) i).trans (R.x i)
  · exact (congrFun (W2_arg m ρ c main_arg5 (by decide)) i).trans (R.w0 i)
  · exact (host_v3 (W1 m ρ c) i).trans ((congrFun (W1_arg m ρ c main_arg7 (by decide)) _).trans (R.gam _))
  · exact (host_v4 (W1 m ρ c) i).trans ((congrFun (W1_arg m ρ c main_arg8 (by decide)) _).trans (R.bet _))
  · exact (host_v2 (W1 m ρ c) i h).trans ((congrFun (W1_arg m ρ c main_arg9 (by decide)) _).trans (R.w1 _))
  · exact (host_v5 (W1 m ρ c) i).trans ((congrFun (W1_arg m ρ c main_arg10 (by decide)) _).trans (R.b1 _))

/-- The embeddings are still there before the third launch. -/
theorem W4_emb (R : Holds m c A) (i : S262144x128.Idx) :
    (W4 m ρ c (Proc.devRef .tc main_v6) : S262144x128.Idx → EReal) i = ((emb A (i 0) (i 1) : ℝ) : EReal) :=
  (congrFun (W4_keep m ρ c main_v6 (by decide)) i).trans (W3_emb m ρ c R i)

/-- The embeddings are still there before the fourth launch. -/
theorem W5_emb (R : Holds m c A) (i : S262144x128.Idx) :
    (W5 m ρ c (Proc.devRef .tc main_v6) : S262144x128.Idx → EReal) i = ((emb A (i 0) (i 1) : ℝ) : EReal) :=
  (congrFun (W5_keep m ρ c main_v6 (by decide)) i).trans (W4_emb m ρ c R i)

/-- The third launch is fed the embeddings, the labels and the attention layer. -/
theorem W4_feeds (R : Holds m c A) : Feeds (tc (W4 m ρ)) c A where
  e := W4_emb m ρ c R
  lab t r k := by
    refine (R.mem _ k).trans (iff_of_eq (congrArg (· = BitVec.ofNat 32 k.val) ?_))
    exact ((host_v9 (W3 m ρ c) (ix3 t (0 : Fin 1) r)).trans (congrFun (W3_arg m ρ c main_arg1 (by decide)) _)).symm
  w i := (host_v12 (W3 m ρ c) i).trans ((congrFun (W3_arg m ρ c main_arg11 (by decide)) _).trans (R.aw _))
  b i := (host_v14 (W3 m ρ c) i).trans ((congrFun (W3_arg m ρ c main_arg12 (by decide)) _).trans (R.ab _))
  v i := (host_v16 (W3 m ρ c) i).trans ((congrFun (W3_arg m ρ c main_arg13 (by decide)) _).trans (R.v _))

/-- The third launch leaves the pools. -/
theorem W5_pools (R : Holds m c A) : Pools (tc (W5 m ρ)) c A := fun k => by
  obtain ⟨M, hd, hn⟩ := pools (tc (W4 m ρ)) c (W4_feeds m ρ c R) k
  exact ⟨M, fun r => (congrFun (W5_arr m ρ c 5) _).trans (hd r), fun d => (congrFun (W5_arr m ρ c 6) _).trans (hn d)⟩

/-- The first result at the end: minus the squared distances of the embeddings to the prototypes. -/
theorem W7_far (R : Holds m c A) :
    (W7 m ρ c (Proc.devRef .tc main_v18_0) : S262144x32.Idx → EReal) = fun i => ((far A (i 0) (i 1) : ℝ) : EReal) :=
  (W7_keep m ρ c main_v18_0 (by decide)).trans ((W6_arr m ρ c 3).trans
    (fars (tc (W5 m ρ)) c R.full (W5_pools m ρ c R) (W5_emb m ρ c R)))

/-- The second result at the end: the mean squared distance of the prototypes. -/
theorem W7_spread (R : Holds m c A) :
    (W7 m ρ c (Proc.devRef .tc main_v20) : S_.Idx → EReal) = fun _ => ((spread A : ℝ) : EReal) :=
  funext fun i => (host_v20 (W6 m ρ c) i).trans ((congrFun (W6_arr m ρ c 4) _).trans
    (congrFun (spreads (tc (W5 m ρ)) c R.full (W5_pools m ρ c R)) _))

end Cert.KernelIdeal.Real
-- ==== Proof.Value.Pre.lean ====
/-
  The precondition read back: the arguments it allows hold the real data of a network.
-/
module

public import proofs.«01_k».proof.Pre_tame
public import proofs.«01_k».proof.Proof.Gen.Pre_tame
public import proofs.«01_k».proof.Proof.Value.Reads
public import proofs.«01_k».proof.Proof.Value.Law
public import Idealize.ShloMosaic.Lib.Affine
public import Idealize.ShloMosaic.PureOps.Reduce

@[expose] public section

noncomputable section

namespace Cert.Tame

open Idealize.ShloMosaic Idealize.ShloMosaic.ValueIdx
open Cert.Pre_tame Cert.Pre_tame.Facts Cert.Spec Cert.Law

/-- An array whose magnitudes are all below infinity holds reals. -/
theorem finite {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) :
    (x i : EReal) = (((x i : EReal).toReal : ℝ) : EReal) := by
  have e : BitVec.ofBool (decide (max (x i : EReal) (-(x i : EReal)) < (FloatOps.ofBits .f32 0x7F800000#32 : Ideal .f32))) = 1#1 := congrFun h i
  rw [lit_top] at e
  exact real_of_abs _ ((ofBool_iff _).mp e)

/-- A left fold by `or` that ends in 1 started at 1 or met a 1. -/
theorem or_met {ι : Type} (f : ι → BitVec 1) (l : List ι) : ∀ b : BitVec 1,
    l.foldl (fun r n => IntOp.ori r (f n)) b = 1#1 → b = 1#1 ∨ ∃ n ∈ l, f n = 1#1 := by
  induction l with
  | nil => exact fun b h => Or.inl h
  | cons a l ih =>
    intro b h
    rcases ih _ h with h | ⟨n, hn, e⟩
    · rcases IntOp.ori_eq_one.mp h with h | h
      · exact Or.inl h
      · exact Or.inr ⟨a, List.mem_cons_self .., h⟩
    · exact Or.inr ⟨n, List.mem_cons_of_mem _ hn, e⟩

/-- An `any` that came out true had a true element among those it ran over. -/
theorem any_met {s t u : Shape} {axes : List (Fin s.rank)} (x : s.Idx → BitVec 1) (b : u.Idx → BitVec 1) (h : s.ReducesTo axes t)
    (hu : 0 < u.numel) (j : t.Idx) (hb : b (Shape.Idx.first hu) ≠ 1#1) (e : Host.reduce IntOp.ori x b h hu j = 1#1) :
    ∃ i, h.drop i = j ∧ x i = 1#1 := by
  rw [Host.reduce_eq_foldl] at e
  rcases or_met _ _ _ e with e | ⟨i, hi, e⟩
  · exact absurd e hb
  · exact ⟨i, by simpa using (List.mem_filter.mp hi).2, e⟩

variable (x0 : FVec Ideal S262144x256 .f32) (x1 : IVec S262144x1 32) (x2 : IVec S131072 32) (x3 x4 : IVec S65536 32)
  (x5 : FVec Ideal S512x256 .f32) (x6 x7 x8 : FVec Ideal S512 .f32) (x9 : FVec Ideal S128x512 .f32) (x10 : FVec Ideal S128 .f32)
  (x11 : FVec Ideal S32x128x128 .f32) (x12 x13 : FVec Ideal S32x128 .f32) (x14 : FVec Ideal S32 .f32)

/-- The network the arguments describe. -/
def net : Net where
  x r k := (x0 (ix2 r k) : EReal).toReal
  w0 r k := (x5 (ix2 r k) : EReal).toReal
  b0 k := (x6 (ix1 k) : EReal).toReal
  gam k := (x7 (ix1 k) : EReal).toReal
  bet k := (x8 (ix1 k) : EReal).toReal
  w1 r k := (x9 (ix2 r k) : EReal).toReal
  b1 k := (x10 (ix1 k) : EReal).toReal
  aw a r k := x11 (ix3 a r k)
  ab r k := x12 (ix2 r k)
  v r k := (x13 (ix2 r k) : EReal).toReal
  vb k := (x14 (ix1 k) : EReal).toReal
  mem r c := x1 (ix2 (row r) (0 : Fin 1)) = BitVec.ofNat 32 c.val

variable [Pre_tame.Facts]

/-- The arguments the precondition allows hold the data of the network they describe. -/
theorem reads
    (h : (Pre_tame.fn (F := Ideal) x0 x1 x2 x3 x4 x5 x6 x7 x8 x9 x10 x11 x12 x13 x14).1 = (fun _ => 1#1)
      ∧ (Pre_tame.fn (F := Ideal) x0 x1 x2 x3 x4 x5 x6 x7 x8 x9 x10 x11 x12 x13 x14).2.1 = (fun _ => 1#1)
      ∧ (Pre_tame.fn (F := Ideal) x0 x1 x2 x3 x4 x5 x6 x7 x8 x9 x10 x11 x12 x13 x14).2.2.1 = (fun _ => 1#1)
      ∧ (Pre_tame.fn (F := Ideal) x0 x1 x2 x3 x4 x5 x6 x7 x8 x9 x10 x11 x12 x13 x14).2.2.2.1 = (fun _ => 1#1)
      ∧ (Pre_tame.fn (F := Ideal) x0 x1 x2 x3 x4 x5 x6 x7 x8 x9 x10 x11 x12 x13 x14).2.2.2.2.1 = (fun _ => 1#1)
      ∧ (Pre_tame.fn (F := Ideal) x0 x1 x2 x3 x4 x5 x6 x7 x8 x9 x10 x11 x12 x13 x14).2.2.2.2.2.1 = (fun _ => 1#1)
      ∧ (Pre_tame.fn (F := Ideal) x0 x1 x2 x3 x4 x5 x6 x7 x8 x9 x10 x11 x12 x13 x14).2.2.2.2.2.2.1 = (fun _ => 1#1)
      ∧ (Pre_tame.fn (F := Ideal) x0 x1 x2 x3 x4 x5 x6 x7 x8 x9 x10 x11 x12 x13 x14).2.2.2.2.2.2.2.1 = (fun _ => 1#1)
      ∧ (Pre_tame.fn (F := Ideal) x0 x1 x2 x3 x4 x5 x6 x7 x8 x9 x10 x11 x12 x13 x14).2.2.2.2.2.2.2.2.1 = (fun _ => 1#1)
      ∧ (Pre_tame.fn (F := Ideal) x0 x1 x2 x3 x4 x5 x6 x7 x8 x9 x10 x11 x12 x13 x14).2.2.2.2.2.2.2.2.2.1 = (fun _ => 1#1)
      ∧ (Pre_tame.fn (F := Ideal) x0 x1 x2 x3 x4 x5 x6 x7 x8 x9 x10 x11 x12 x13 x14).2.2.2.2.2.2.2.2.2.2 = (fun _ => 1#1)) :
    Reads (net x0 x1 x5 x6 x7 x8 x9 x10 x11 x12 x13 x14) x0 x1 x2 x5 x6 x7 x8 x9 x10 x11 x12 x13 x14 := by
  obtain ⟨hx, hw0, hb0, hg, hb, hw1, hb1, hv, hvb, hidx, hany⟩ := h
  exact {
    x := fun i => (finite x0 bcast_S_S262144x256 hx i).trans (congrArg (fun k => ((x0 k : EReal).toReal : EReal)) (eq_ix2 i))
    w0 := fun i => (finite x5 bcast_S_S512x256 hw0 i).trans (congrArg (fun k => ((x5 k : EReal).toReal : EReal)) (eq_ix2 i))
    b0 := fun i => (finite x6 bcast_S_S512 hb0 i).trans (congrArg (fun k => ((x6 k : EReal).toReal : EReal)) (eq_ix1 i))
    gam := fun i => (finite x7 bcast_S_S512 hg i).trans (congrArg (fun k => ((x7 k : EReal).toReal : EReal)) (eq_ix1 i))
    bet := fun i => (finite x8 bcast_S_S512 hb i).trans (congrArg (fun k => ((x8 k : EReal).toReal : EReal)) (eq_ix1 i))
    w1 := fun i => (finite x9 bcast_S_S128x512 hw1 i).trans (congrArg (fun k => ((x9 k : EReal).toReal : EReal)) (eq_ix2 i))
    b1 := fun i => (finite x10 bcast_S_S128 hb1 i).trans (congrArg (fun k => ((x10 k : EReal).toReal : EReal)) (eq_ix1 i))
    aw := fun i => congrArg x11 (eq_ix3 i)
    ab := fun i => congrArg x12 (eq_ix2 i)
    v := fun i => (finite x13 bcast_S_S32x128 hv i).trans (congrArg (fun k => ((x13 k : EReal).toReal : EReal)) (eq_ix2 i))
    vb := fun i => (finite x14 bcast_S_S32 hvb i).trans (congrArg (fun k => ((x14 k : EReal).toReal : EReal)) (eq_ix1 i))
    mem := fun r c => Iff.rfl
    idx := fun i => IntOp.cmpi_eq.mp (congrFun hidx i)
    full := fun c => by
      have hc : Host.reduce IntOp.ori (cmpi .eq (broadcastInDim S131072x32 ![0, 1] bcast_S131072x1_S131072x32_0_1
          (extractStridedSlice S131072x1 ![0, 0] x1 slices_S262144x1_S131072x1_0_0)) (iotaInDim S131072x32 32 1))
          (constantI S_ 1 0#1) reducesTo_S131072x32_S32_d0 h_S_ (ix1 c) = 1#1 := by
        unfold Pre_tame.fn Pre_tame.fn_part1 at hany
        dsimp only at hany
        rw [hany]
      obtain ⟨i, hi, e⟩ := any_met _ _ _ _ _ (fun z : (0#1 : BitVec 1) = 1#1 => by cases z) hc
      have e' : x1 (ix2 (row (i 0)) (0 : Fin 1)) = BitVec.ofNat 32 (i 1).val := by
        refine Eq.trans (congrArg x1 (funext fun a => Fin.ext ?_)) (IntOp.cmpi_eq.mp e)
        match a with
        | ⟨0, _⟩ => exact (Nat.zero_add _).symm
        | ⟨1, _⟩ => exact (Fin.val_eq_zero (_ : Fin 1)).symm
      have hk : (i 1).val = c.val :=
        (reducesTo_S131072x32_S32_d0.drop_apply_val_of_eq i (0 : Fin 1) (1 : Fin 2)).symm.trans (congrArg (fun j : S32.Idx => (j 0).val) hi)
      exact ⟨i 0, e'.trans (by rw [hk])⟩ }

end Cert.Tame
-- ==== Proof.lean ====
module

public import proofs.«01_k».proof.Defs
public import proofs.«01_k».proof.Proof.Frames
public import proofs.«01_k».proof.Proof.Gen.Pre_tame
public import proofs.«01_k».proof.Proof.Gen.ReferenceIdeal
public import proofs.«01_k».proof.Proof.Gen.ReferenceIdeal.Run
public import proofs.«01_k».proof.Proof.Gen.ReferenceIdeal.Read
public import proofs.«01_k».proof.Proof.Ref
public import proofs.«01_k».proof.Proof.Value.KRun
public import proofs.«01_k».proof.Proof.Value.Pre

@[expose] public section

noncomputable section

namespace Cert.Proof

open Idealize.ShloMosaic Idealize.ShloMosaic.TcCoe Idealize.SL.Sem Cert.Spec

/-- Where every device's arguments hold the data of a network, the kernel ends with its two results at minus the squared
    distances of the embeddings to the prototypes and at the prototypes' mean squared distance, its arguments unchanged. -/
theorem kernel_run (A : Dev KernelIdeal.nD → Net) (m : (ℓ : Loc KernelIdeal.nD KernelIdeal.τ KernelIdeal.sig) → Buf (Elt Ideal) ℓ)
    (g : Dev KernelIdeal.nD → PrngReg) (R : ∀ c, KernelIdeal.Real.Holds m c (A c)) :
    letI := KernelIdeal.Gen.facts
    θ_run (KernelIdeal.defs (F := Ideal)) (onTc (τ := KernelIdeal.τ) (KernelIdeal.main (F := Ideal))) ⟨m, fun _ => 0, g⟩ (fun r =>
      ∀ c : Dev KernelIdeal.nD,
        (r.2.mem ((c.tc : Thread KernelIdeal.nD KernelIdeal.τ).loc KernelIdeal.main_v18_0) : KernelIdeal.S262144x32.Idx → EReal)
            = (fun i => ((far (A c) (i 0) (i 1) : ℝ) : EReal))
        ∧ (r.2.mem ((c.tc : Thread KernelIdeal.nD KernelIdeal.τ).loc KernelIdeal.main_v20) : KernelIdeal.S_.Idx → EReal)
            = (fun _ => ((spread (A c) : ℝ) : EReal))
        ∧ ∀ a ∈ KernelIdeal.Net.argRefs, r.2.mem ((c.tc : Thread KernelIdeal.nD KernelIdeal.τ).loc a)
            = m ((c.tc : Thread KernelIdeal.nD KernelIdeal.τ).loc a)) :=
  (θ_run KernelIdeal.defs _ _).mono (fun r h c =>
    ⟨(h.1 c _ (KernelIdeal.Net.mem_uc _ (by decide))).trans (KernelIdeal.Real.W7_far m g c (R c)),
     (h.1 c _ (KernelIdeal.Net.mem_uc _ (by decide))).trans (KernelIdeal.Real.W7_spread m g c (R c)),
     fun a ha => (h.1 c _ (KernelIdeal.Net.mem_uc a
       ((by decide : ∀ a ∈ KernelIdeal.Net.argRefs, ¬ (Proc.devRef .tc a : DevRef KernelIdeal.τ KernelIdeal.sig).isScoped) a ha))).trans
         (KernelIdeal.Net.W7_arg m g c a ha)⟩) (KernelIdeal.Net.run m g)

/-- The arguments one device of the reference starts with hold the data `A`. -/
abbrev HoldsRef (m : (ℓ : Loc ReferenceIdeal.nD ReferenceIdeal.τ ReferenceIdeal.sig) → Buf (Elt Ideal) ℓ) (c : Dev ReferenceIdeal.nD)
    (A : Net) : Prop :=
  let at' (b : Ref ReferenceIdeal.sig .tc) := m ((c.tc : Thread ReferenceIdeal.nD ReferenceIdeal.τ).loc b)
  Reads A (at' ReferenceIdeal.main_arg0) (at' ReferenceIdeal.main_arg1) (at' ReferenceIdeal.main_arg2) (at' ReferenceIdeal.main_arg5)
    (at' ReferenceIdeal.main_arg6) (at' ReferenceIdeal.main_arg7) (at' ReferenceIdeal.main_arg8) (at' ReferenceIdeal.main_arg9)
    (at' ReferenceIdeal.main_arg10) (at' ReferenceIdeal.main_arg11) (at' ReferenceIdeal.main_arg12) (at' ReferenceIdeal.main_arg13)
    (at' ReferenceIdeal.main_arg14)

/-- The kernel and the reference, run on the same arguments, end with the same results: both hold what the network of the
    arguments says. -/
theorem algebraic : algebraic_KernelIdeal_ReferenceIdeal_pre_tame (hKernelIdeal := KernelIdeal.Gen.facts)
    (hReferenceIdeal := ReferenceIdeal.Gen.facts) (hPre_tame := Pre_tame.Gen.facts) := by
  intro m g m' g' hpre hargs
  letI := Pre_tame.Gen.facts
  have hR : ∀ c, ∃ A, KernelIdeal.Real.Holds m c A := fun c => ⟨_, Tame.reads _ _ _ _ _ _ _ _ _ _ _ _ _ _ _ (hpre c)⟩
  choose A R using hR
  have R' : ∀ c, HoldsRef m' c (A c) := fun c => by
    obtain ⟨h0, h1, h2, -, -, h5, h6, h7, h8, h9, h10, h11, h12, h13, h14⟩ := hargs c
    dsimp only [HoldsRef]
    rw [h0, h1, h2, h5, h6, h7, h8, h9, h10, h11, h12, h13, h14]
    exact R c
  refine ⟨fun c i => ((far (A c) (i 0) (i 1) : ℝ) : EReal), fun c _ => ((spread (A c) : ℝ) : EReal), ?_, ?_⟩
  · refine (θ_run KernelIdeal.defs _ _).mono (fun r h c => ?_) (kernel_run A m g R)
    obtain ⟨h1, h2, h⟩ := h c
    exact ⟨h1, h2, h _ (by decide), h _ (by decide), h _ (by decide), h _ (by decide), h _ (by decide), h _ (by decide),
      h _ (by decide), h _ (by decide), h _ (by decide), h _ (by decide), h _ (by decide), h _ (by decide), h _ (by decide),
      h _ (by decide), h _ (by decide)⟩
  · refine (θ_run ReferenceIdeal.defs _ _).mono (fun r h c => ?_) (ReferenceIdeal.Value.run m' g')
    refine ⟨(h c).1.trans ?_, (h c).2.1.trans ?_, (h c).2.2⟩
    · exact (ReferenceIdeal.Read.val_main_v112_eq (StableHlo.launchContents m' c)).trans (funext fun i => Ref.first_result (R' c) i)
    · exact (ReferenceIdeal.Read.val_main_v97_eq (StableHlo.launchContents m' c)).trans (funext fun i => Ref.second_result (R' c) i)

/-- Everything claimed: the frames, that idealizing the kernel preserves it, and the equality of the results. -/
theorem claim : Cert.Claim :=
  ⟨Kernel.Gen.facts, KernelIdeal.Gen.facts, ReferenceIdeal.Gen.facts, Pre_tame.Gen.facts, frame_kernel, frame_ideal,
    fun m g _ => frame_ideal m g trivial, frame_reference, fun m g _ => frame_reference m g trivial, trivial, algebraic⟩

end Cert.Proof

end
